-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S512x1024 : Shape := ⟨2, ![512, 1024]⟩
abbrev S_ : Shape := ⟨0, ![]⟩
abbrev S8 : Shape := ⟨1, ![8]⟩
abbrev S1x512x1024 : Shape := ⟨3, ![1, 512, 1024]⟩
abbrev S1 : Shape := ⟨1, ![1]⟩
abbrev S64x1024 : Shape := ⟨2, ![64, 1024]⟩
abbrev S64 : Shape := ⟨1, ![64]⟩
abbrev S64x1 : Shape := ⟨2, ![64, 1]⟩
abbrev S1x1024 : Shape := ⟨2, ![1, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .local _ .vmem, ⟨0, _⟩ => ⟨S1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let c0_i32 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c0_i32_4 : BitVec 32 := 0#32
  ![0, v8.toNat, 0]
def k0_off2 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c0_i32_5 : BitVec 32 := 0#32
  ![v8.toNat, 0]
def k0_dev1 (d0 : Dev nD) : Nat :=
  let c0_i32_8 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v13 : BitVec 32 := Scalar.muli v6 c2_i32_7
  let v14 : BitVec 32 := Scalar.addi c0_i32_8 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_9 : BitVec 32 := 1#32
  let v15 : BitVec 32 := Scalar.muli v5 c1_i32_9
  let v16 : BitVec 32 := Scalar.addi v14 v15
  v16.toNat
def k0_dev2 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v17 : BitVec 32 := Scalar.muli v2 c2_i32_11
  let v18 : BitVec 32 := Scalar.addi c0_i32_12 v17
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_13 : BitVec 32 := 1#32
  let v19 : BitVec 32 := Scalar.muli v7 c1_i32_13
  let v20 : BitVec 32 := Scalar.addi v18 v19
  v20.toNat
def k0_dev3 (d0 : Dev nD) : Nat :=
  let c0_i32_20 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_19 : BitVec 32 := 2#32
  let v23 : BitVec 32 := Scalar.muli v6 c2_i32_19
  let v24 : BitVec 32 := Scalar.addi c0_i32_20 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_21 : BitVec 32 := 1#32
  let v25 : BitVec 32 := Scalar.muli v5 c1_i32_21
  let v26 : BitVec 32 := Scalar.addi v24 v25
  v26.toNat
def k0_dev4 (d0 : Dev nD) : Nat :=
  let c0_i32_29 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_28 : BitVec 32 := 2#32
  let v33 : BitVec 32 := Scalar.muli v6 c2_i32_28
  let v34 : BitVec 32 := Scalar.addi c0_i32_29 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v35 : BitVec 32 := Scalar.muli v5 c1_i32_30
  let v36 : BitVec 32 := Scalar.addi v34 v35
  v36.toNat
def k0_dev5 (d0 : Dev nD) : Nat :=
  let c0_i32_37 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_36 : BitVec 32 := 2#32
  let v43 : BitVec 32 := Scalar.muli v6 c2_i32_36
  let v44 : BitVec 32 := Scalar.addi c0_i32_37 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v45 : BitVec 32 := Scalar.muli v5 c1_i32_38
  let v46 : BitVec 32 := Scalar.addi v44 v45
  v46.toNat
def k0_dev6 (d0 : Dev nD) : Nat :=
  let c0_i32_44 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_43 : BitVec 32 := 2#32
  let v53 : BitVec 32 := Scalar.muli v6 c2_i32_43
  let v54 : BitVec 32 := Scalar.addi c0_i32_44 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v55 : BitVec 32 := Scalar.muli v5 c1_i32_45
  let v56 : BitVec 32 := Scalar.addi v54 v55
  v56.toNat
def k0_dev7 (d0 : Dev nD) : Nat :=
  let c0_i32_51 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_50 : BitVec 32 := 2#32
  let v63 : BitVec 32 := Scalar.muli v6 c2_i32_50
  let v64 : BitVec 32 := Scalar.addi c0_i32_51 v63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v65 : BitVec 32 := Scalar.muli v5 c1_i32_52
  let v66 : BitVec 32 := Scalar.addi v64 v65
  v66.toNat
def k0_dev8 (d0 : Dev nD) : Nat :=
  let c0_i32_58 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_57 : BitVec 32 := 2#32
  let v73 : BitVec 32 := Scalar.muli v6 c2_i32_57
  let v74 : BitVec 32 := Scalar.addi c0_i32_58 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_59 : BitVec 32 := 1#32
  let v75 : BitVec 32 := Scalar.muli v5 c1_i32_59
  let v76 : BitVec 32 := Scalar.addi v74 v75
  v76.toNat
def k0_dev9 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v83 : BitVec 32 := Scalar.muli v6 c2_i32_64
  let v84 : BitVec 32 := Scalar.addi c0_i32_65 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v85 : BitVec 32 := Scalar.muli v5 c1_i32_66
  let v86 : BitVec 32 := Scalar.addi v84 v85
  v86.toNat
def k0_dev10 (d0 : Dev nD) : Nat :=
  let c0_i32_72 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_71 : BitVec 32 := 2#32
  let v93 : BitVec 32 := Scalar.muli v6 c2_i32_71
  let v94 : BitVec 32 := Scalar.addi c0_i32_72 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_73 : BitVec 32 := 1#32
  let v95 : BitVec 32 := Scalar.muli v5 c1_i32_73
  let v96 : BitVec 32 := Scalar.addi v94 v95
  v96.toNat
def k0_off3 (d0 : Dev nD) (c0_i32_78 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v104 : BitVec 32 := Scalar.addi v8 c0_i32_78
  let v133 : Index := Scalar.indexCast v104
  let c0_96 : Index := 0#32
  ![v133.toNat, 0]
def k0_off4 (d0 : Dev nD) (c0_i32_78 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v104 : BitVec 32 := Scalar.addi v8 c0_i32_78
  let c0_i32_102 : BitVec 32 := 0#32
  ![v104.toNat, 0]
def k0_dev11 (d0 : Dev nD) : Nat :=
  let c0_i32_100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_99 : BitVec 32 := 2#32
  let v135 : BitVec 32 := Scalar.muli v2 c2_i32_99
  let v136 : BitVec 32 := Scalar.addi c0_i32_100 v135
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_101 : BitVec 32 := 1#32
  let v137 : BitVec 32 := Scalar.muli v7 c1_i32_101
  let v138 : BitVec 32 := Scalar.addi v136 v137
  v138.toNat
def k0_dev12 (d0 : Dev nD) : Nat :=
  let c0_i32_127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_126 : BitVec 32 := 2#32
  let v176 : BitVec 32 := Scalar.muli v2 c2_i32_126
  let v177 : BitVec 32 := Scalar.addi c0_i32_127 v176
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_128 : BitVec 32 := 1#32
  let v178 : BitVec 32 := Scalar.muli v7 c1_i32_128
  let v179 : BitVec 32 := Scalar.addi v177 v178
  v179.toNat
def k0_dev13 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_153 : BitVec 32 := 2#32
  let v217 : BitVec 32 := Scalar.muli v2 c2_i32_153
  let v218 : BitVec 32 := Scalar.addi c0_i32_154 v217
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_155 : BitVec 32 := 1#32
  let v219 : BitVec 32 := Scalar.muli v7 c1_i32_155
  let v220 : BitVec 32 := Scalar.addi v218 v219
  v220.toNat
def k0_dev14 (d0 : Dev nD) : Nat :=
  let c0_i32_181 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_180 : BitVec 32 := 2#32
  let v258 : BitVec 32 := Scalar.muli v2 c2_i32_180
  let v259 : BitVec 32 := Scalar.addi c0_i32_181 v258
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_182 : BitVec 32 := 1#32
  let v260 : BitVec 32 := Scalar.muli v7 c1_i32_182
  let v261 : BitVec 32 := Scalar.addi v259 v260
  v261.toNat
def k0_dev15 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v299 : BitVec 32 := Scalar.muli v2 c2_i32_207
  let v300 : BitVec 32 := Scalar.addi c0_i32_208 v299
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_209 : BitVec 32 := 1#32
  let v301 : BitVec 32 := Scalar.muli v7 c1_i32_209
  let v302 : BitVec 32 := Scalar.addi v300 v301
  v302.toNat
def k0_dev16 (d0 : Dev nD) : Nat :=
  let c0_i32_235 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_234 : BitVec 32 := 2#32
  let v340 : BitVec 32 := Scalar.muli v2 c2_i32_234
  let v341 : BitVec 32 := Scalar.addi c0_i32_235 v340
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_236 : BitVec 32 := 1#32
  let v342 : BitVec 32 := Scalar.muli v7 c1_i32_236
  let v343 : BitVec 32 := Scalar.addi v341 v342
  v343.toNat
def k0_dev17 (d0 : Dev nD) : Nat :=
  let c0_i32_262 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_261 : BitVec 32 := 2#32
  let v381 : BitVec 32 := Scalar.muli v2 c2_i32_261
  let v382 : BitVec 32 := Scalar.addi c0_i32_262 v381
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_263 : BitVec 32 := 1#32
  let v383 : BitVec 32 := Scalar.muli v7 c1_i32_263
  let v384 : BitVec 32 := Scalar.addi v382 v383
  v384.toNat
def k0_dev18 (d0 : Dev nD) : Nat :=
  let c0_i32_289 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_288 : BitVec 32 := 2#32
  let v422 : BitVec 32 := Scalar.muli v2 c2_i32_288
  let v423 : BitVec 32 := Scalar.addi c0_i32_289 v422
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_290 : BitVec 32 := 1#32
  let v424 : BitVec 32 := Scalar.muli v7 c1_i32_290
  let v425 : BitVec 32 := Scalar.addi v423 v424
  v425.toNat
abbrev stage0_0 : Fin 1 → Memref sig .tc .vmem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Text.lean ====
/-
  The kernel's body in a normal form: one operation per statement, written once for a chunk number `k : Fin 8` where the
  printed text repeats a statement eight times. `body_eq` says the printed body is this text.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Proof.Run

open Cert.KernelIdeal Cert.KernelIdeal.Gen
open Idealize.ShloMosaic Idealize.ShloMosaic.TcCoe
open Idealize.SL Idealize.SL.Sem

variable {F : FTy → Type} [FloatOps F]

/-! ## Peers -/

/-- The device that sums with `c`: the other row of the mesh, same column. Device `2 x + y` is row `x`, column `y`. -/
def xp (c : Dev nD) : Dev nD := ⟨(c.val % 2 + 2) - 2 * (c.val / 2), by have := c.isLt; revert this; generalize c.val = v; decide +revert⟩
/-- The device that swaps halves with `c`: same row, the other column. -/
def yp (c : Dev nD) : Dev nD := ⟨(2 * (c.val / 2) + 1) - c.val % 2, by have := c.isLt; revert this; generalize c.val = v; decide +revert⟩

theorem xp_xp (c : Dev nD) : xp (xp c) = c := by revert c; decide
theorem yp_yp (c : Dev nD) : yp (yp c) = c := by revert c; decide
theorem xp_ne_yp (c : Dev nD) : xp c ≠ yp c := by revert c; decide
/-- The partner along x is in the same column, -/
theorem xp_col (c : Dev nD) : (xp c).val % 2 = c.val % 2 := by revert c; decide
/-- and the partner along y in the other. -/
theorem yp_col (c : Dev nD) : (yp c).val % 2 = 1 - c.val % 2 := by revert c; decide

/-! ## Memrefs -/

/-- The partial sums' array and the residual array, in HBM. -/
abbrev aM : Memref sig .tc .hbm S1x1024x1024 .f32 := Memref.whole main_arg0
abbrev bM : Memref sig .tc .hbm S1024x1024 .f32 := Memref.whole main_arg1
/-- The scale vector and the result, staged in VMEM. -/
abbrev gM : Memref sig .tc .vmem S1024 .f32 := Memref.whole cc0_stg0_0
abbrev oM : Memref sig .tc .vmem S1024x1024 .f32 := Memref.whole cc0_stg1_0
/-- The scratch buffers: own partial sum, own residual, the partner's partial sum. -/
abbrev pM : Memref sig .tc .vmem S512x1024 .f32 := Memref.whole cc0_scratch0
abbrev rM : Memref sig .tc .vmem S512x1024 .f32 := Memref.whole cc0_scratch1
abbrev xM : Memref sig .tc .vmem S512x1024 .f32 := Memref.whole cc0_scratch2

/-- Device `c`'s half of its partial sum, and of the residual. -/
abbrev aH (c : Dev nD) : Memref sig .tc .hbm S512x1024 .f32 :=
  (aM.slice (Rect.unit (s := S1x1024x1024) (k0_off1 c) S1x512x1024.size (k0_off1_inb c)) (fun _ => rfl)).squeeze S512x1024 squeezes_S1x512x1024_S512x1024
abbrev bH (c : Dev nD) : Memref sig .tc .hbm S512x1024 .f32 :=
  bM.slice (Rect.unit (s := S1024x1024) (k0_off2 c) S512x1024.size (k0_off2_inb c)) (fun _ => rfl)

theorem inb_k (k : Fin 8) : ∀ a, (![64 * k.val, 0] : Fin S512x1024.rank → ℕ) a + S64x1024.size a ≤ S512x1024.size a := by
  revert k; decide
/-- The rows of chunk `k` of a half, -/
abbrev rk (k : Fin 8) : Rect S512x1024 := Rect.unit (s := S512x1024) ![64 * k.val, 0] S64x1024.size (inb_k k)
/-- and the rows of the whole result they are, on device `c`, as a store's rectangle and as a transfer's. -/
abbrev ok3 (c : Dev nD) (k : Fin 8) : Rect S1024x1024 :=
  Rect.unit (s := S1024x1024) (k0_off3 c (BitVec.ofNat 32 (64 * k.val))) S64x1024.size (k0_off3_inb c k)
abbrev ok4 (c : Dev nD) (k : Fin 8) : Rect S1024x1024 :=
  Rect.unit (s := S1024x1024) (k0_off4 c (BitVec.ofNat 32 (64 * k.val))) S64x1024.size (k0_off4_inb c k)

/-- Chunk `k` of a scratch buffer, and of device `c`'s half of the result. -/
abbrev pC (k : Fin 8) : Memref sig .tc .vmem S64x1024 .f32 := pM.slice (rk k) (fun _ => rfl)
abbrev xC (k : Fin 8) : Memref sig .tc .vmem S64x1024 .f32 := xM.slice (rk k) (fun _ => rfl)
abbrev oC (c : Dev nD) (k : Fin 8) : Memref sig .tc .vmem S64x1024 .f32 := oM.slice (ok4 c k) (fun _ => rfl)

/-! ## Semaphores -/

abbrev barS : Sem sig := (SemArray.scalar (sig.barrier 0 rfl) : Sems sig S_).sem
abbrev pS : DmaSem sig := (2 : Fin 36)
abbrev rS : DmaSem sig := (3 : Fin 36)
/-- The semaphores of the eight chunks: family `j` of four (x send, x receive, y send, y receive), chunk `k`. -/
abbrev cS (j : Fin 4) (k : Fin 8) : DmaSem sig := (⟨4 + 8 * j.val + k.val, by omega⟩ : Fin 36)

/-! ## The text -/

abbrev PT (F : FTy → Type) [FloatOps F] : Type 1 := Prog (TpuEff nD τ sig (Elt F) Λ₀ .tc) PUnit

/-- The send of chunk `k` of the partial sum to device `n`. -/
def xsendOp (k : Fin 8) (n : Dev nD) (K : PT F) : PT F :=
  .op (.enqueueDma (pC k) (.remote (Dev.tc n) (xC k) (.dma (cS 0 k))) (.dma (cS 1 k)) (View.wordExact_bits rfl) (View.wordExact_bits rfl) ⟨⟨rfl, Or.inl rfl⟩, trivial⟩) fun _ => K

/-- The send of chunk `k` of device `c`'s half of the result to device `n`. -/
def ysendOp (c : Dev nD) (k : Fin 8) (n : Dev nD) (K : PT F) : PT F :=
  .op (.enqueueDma (oC c k) (.remote (Dev.tc n) (oC c k) (.dma (cS 2 k))) (.dma (cS 3 k)) (View.wordExact_bits rfl) (View.wordExact_bits rfl) ⟨⟨rfl, Or.inl rfl⟩, trivial⟩) fun _ => K

/-- Chunk `k`'s work: wait for the partner's chunk, read both partial sums, the residual and the scale, store the
    normalised rows and send them to device `n`. -/
def chunkOp (c : Dev nD) (k : Fin 8) (n : Dev nD) (K : PT F) : PT F :=
  .op (.waitDma2 (cS 1 k) (pC k) (xC k) (View.wordExact_bits rfl) (View.wordExact_bits rfl)) fun _ =>
  .op (.load pM (rk k).toLoadRect (View.loadsAt_vmem h_S64x1024)) fun v =>
  .op (.load xM (rk k).toLoadRect (View.loadsAt_vmem h_S64x1024)) fun w =>
  .op (.load rM (rk k).toLoadRect (View.loadsAt_vmem h_S64x1024)) fun r =>
  .op (.load gM (Rect.unit (s := S1024) ![0] S1024.size inb_S1024_S1024_0).toLoadRect (View.loadsAt_vmem h_S1024)) fun g =>
  .op (.load oM (ok3 c k).toLoadRect (View.loadsAt_vmem h_S64x1024)) fun _ =>
  .op (.store oM (ok3 c k) (k0_pay1 v w r g) Finset.univ (View.stores_vmem_bits_univ h_S64x1024 rfl) (.inl rfl)) fun _ =>
  ysendOp c k n K

/-- Chunk `k`'s closing waits: its two sends done, the partner's rows of the result arrived. -/
def doneOp (c : Dev nD) (k : Fin 8) (K : PT F) : PT F :=
  .op (.waitDma2 (cS 0 k) (xC k) (pC k) (View.wordExact_bits rfl) (View.wordExact_bits rfl)) fun _ =>
  .op (.waitDma2 (cS 2 k) (oC c k) (oC c k) (View.wordExact_bits rfl) (View.wordExact_bits rfl)) fun _ =>
  .op (.waitDma2 (cS 3 k) (oC c k) (oC c k) (View.wordExact_bits rfl) (View.wordExact_bits rfl)) fun _ => K

/-- Eight operations in a row, one per chunk. -/
def each8 (f : Fin 8 → PT F → PT F) (K : PT F) : PT F := f 0 (f 1 (f 2 (f 3 (f 4 (f 5 (f 6 (f 7 K)))))))

/-- The devices the kernel computes for its transfers, one per chunk. -/
def xdev (c : Dev nD) : Fin 8 → Dev nD := fun
  | 0 => ⟨k0_dev3 c, k0_dev3_lt c⟩ | 1 => ⟨k0_dev4 c, k0_dev4_lt c⟩ | 2 => ⟨k0_dev5 c, k0_dev5_lt c⟩ | 3 => ⟨k0_dev6 c, k0_dev6_lt c⟩
  | 4 => ⟨k0_dev7 c, k0_dev7_lt c⟩ | 5 => ⟨k0_dev8 c, k0_dev8_lt c⟩ | 6 => ⟨k0_dev9 c, k0_dev9_lt c⟩ | 7 => ⟨k0_dev10 c, k0_dev10_lt c⟩
def ydev (c : Dev nD) : Fin 8 → Dev nD := fun
  | 0 => ⟨k0_dev11 c, k0_dev11_lt c⟩ | 1 => ⟨k0_dev12 c, k0_dev12_lt c⟩ | 2 => ⟨k0_dev13 c, k0_dev13_lt c⟩ | 3 => ⟨k0_dev14 c, k0_dev14_lt c⟩
  | 4 => ⟨k0_dev15 c, k0_dev15_lt c⟩ | 5 => ⟨k0_dev16 c, k0_dev16_lt c⟩ | 6 => ⟨k0_dev17 c, k0_dev17_lt c⟩ | 7 => ⟨k0_dev18 c, k0_dev18_lt c⟩

/-- All of them are the partners. -/
theorem xdev_eq (c : Dev nD) (k : Fin 8) : xdev c k = xp c := by
  fin_cases k
  · exact Fin.ext (k0_dev3_eq c)
  · exact Fin.ext (k0_dev4_eq c)
  · exact Fin.ext (k0_dev5_eq c)
  · exact Fin.ext (k0_dev6_eq c)
  · exact Fin.ext (k0_dev7_eq c)
  · exact Fin.ext (k0_dev8_eq c)
  · exact Fin.ext (k0_dev9_eq c)
  · exact Fin.ext (k0_dev10_eq c)
theorem ydev_eq (c : Dev nD) (k : Fin 8) : ydev c k = yp c := by
  fin_cases k
  · exact Fin.ext (k0_dev11_eq c)
  · exact Fin.ext (k0_dev12_eq c)
  · exact Fin.ext (k0_dev13_eq c)
  · exact Fin.ext (k0_dev14_eq c)
  · exact Fin.ext (k0_dev15_eq c)
  · exact Fin.ext (k0_dev16_eq c)
  · exact Fin.ext (k0_dev17_eq c)
  · exact Fin.ext (k0_dev18_eq c)
theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)

/-- The body on device `c`, its two signals addressed to `n₁` and `n₂` and its transfers to `nx k` and `ny k`. -/
def text (c n₁ n₂ : Dev nD) (nx ny : Fin 8 → Dev nD) : PT F :=
  .op (.enqueueDma (aH c) (.here pM) (.dma pS) ((View.wordExact_bits rfl).reshape _ _) (Memref.isWhole_whole _).wordExact ⟨Or.inl rfl, trivial⟩) fun _ =>
  .op (.enqueueDma (bH c) (.here rM) (.dma rS) (View.wordExact_bits rfl) (Memref.isWhole_whole _).wordExact ⟨Or.inl rfl, trivial⟩) fun _ =>
  .op (.semSignal (n₁ : Thread nD τ) barS 1) fun _ =>
  .op (.semSignal (n₂ : Thread nD τ) barS 1) fun _ =>
  .op (.semWait barS 2) fun _ =>
  .op (.waitDma2 pS (aH c) pM ((View.wordExact_bits rfl).reshape _ _) (Memref.isWhole_whole _).wordExact) fun _ =>
  each8 (fun k => xsendOp k (nx k)) <|
  .op (.waitDma2 rS (bH c) rM (View.wordExact_bits rfl) (Memref.isWhole_whole _).wordExact) fun _ =>
  each8 (fun k => chunkOp c k (ny k)) <|
  each8 (fun k => doneOp c k) <| .ret ⟨⟩

/-- The printed body on the launch's buffers and semaphores. -/
abbrev printed : PT F :=
  cc0_body (Memref.whole main_arg0) (Memref.isWhole_whole _) (Memref.whole main_arg1) (Memref.isWhole_whole _) (Memref.whole cc0_stg0_0) (Memref.isWhole_whole _)
    (Memref.whole cc0_stg1_0) (Memref.isWhole_whole _) (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6 cc0_scratch7 cc0_scratch8

set_option maxRecDepth 65536 in
set_option maxHeartbeats 4000000 in
/-- The printed body is the text above, at the device that runs it. -/
theorem printed_eq : (printed : PT F) = .op .deviceId fun d => text d ⟨k0_dev1 d, k0_dev1_lt d⟩ ⟨k0_dev2 d, k0_dev2_lt d⟩ (xdev d) (ydev d) := by
  unfold printed
  simp only [cc0_body_eq_skeleton]
  rfl

end Cert.Proof.Run
-- ==== Proof.Contents.lean ====
/-
  What the buffers hold, as functions of the launch memory, and how the rows of the buffers split into the eight chunks the
  transfers move.
-/
module

public import proofs.«01_k».proof.Proof.Text
public import Idealize.ShloMosaic.Lib.ViewIndex

@[expose] public section

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Contents -/

/-- What a `512 × 1024` scratch buffer, the result's staging buffer, the scale's staging buffer hold. -/
abbrev Half (F : FTy → Type) : Type := (cc0_scratch0 : Ref sig .tc).ty.Contents (Elt F)
abbrev Full (F : FTy → Type) : Type := (cc0_stg1_0 : Ref sig .tc).ty.Contents (Elt F)
abbrev Vec (F : FTy → Type) : Type := (cc0_stg0_0 : Ref sig .tc).ty.Contents (Elt F)

/-- Device `c`'s half of its partial sum, -/
def pAt (c : Dev nD) : Half F := (aH c).view.read (Elt F) (m ((c : Thread nD τ).loc main_arg0))
/-- of the residual, -/
def rAt (c : Dev nD) : Half F := (bH c).view.read (Elt F) (m ((c : Thread nD τ).loc main_arg1))
/-- and the scale. -/
def gAt (c : Dev nD) : Vec F := (win0_0.blk (0 : Fin 1)).view.read (Elt F) (m ((c : Thread nD τ).loc main_arg2))

/-- The rows `64 k … 64 k + 63` of a half: the normalised rows of the sum of both partial sums and the residual. -/
def chunkOf (p x r : Half F) (g : Vec F) (k : Fin 8) : FVec F S64x1024 .f32 :=
  k0_pay1 ((pM).view.readAt (Elt F) (rk k).toLoadRect p) ((xM).view.readAt (Elt F) (rk k).toLoadRect x)
    ((rM).view.readAt (Elt F) (rk k).toLoadRect r)
    ((gM).view.readAt (Elt F) (Rect.unit (s := S1024) ![0] S1024.size inb_S1024_S1024_0).toLoadRect g)

/-- What device `d` computes for chunk `k` of its half. -/
def outChunk (d : Dev nD) (k : Fin 8) : FVec F S64x1024 .f32 := chunkOf (pAt m d) (pAt m (xp d)) (rAt m d) (gAt m d) k

/-- The index of row `a`, column `b` of a chunk. -/
def rowCol (a : Fin 64) (b : Fin 1024) : S64x1024.Idx := fun | ⟨0, _⟩ => a | ⟨1, _⟩ => b

/-- The device of `c`'s pair along y whose half row `n` of the result is in. -/
def owner (c : Dev nD) (n : ℕ) : Dev nD := if n / 512 = c.val % 2 then c else yp c

/-- The result on device `c`: every row from the device of its half. -/
def outAt (c : Dev nD) : Full F := fun i =>
  outChunk m (owner c (i 0).val) ⟨(i 0).val % 512 / 64, by omega⟩ (rowCol ⟨(i 0).val % 64, Nat.mod_lt _ (by decide)⟩ ⟨(i 1).val, (i 1).isLt⟩)

theorem owner_yp (c : Dev nD) (n : ℕ) (h : n < 1024) : owner (yp c) n = owner c n := by
  unfold owner
  rw [yp_yp, yp_col]
  have : n / 512 < 2 := by omega
  by_cases h1 : n / 512 = c.val % 2
  · rw [if_pos h1, if_neg (by omega)]
  · rw [if_neg h1, if_pos (by omega)]

/-- Both devices of a pair along y end with one result. -/
theorem outAt_yp (c : Dev nD) : outAt m (yp c) = outAt m c := by
  funext i; unfold outAt; rw [owner_yp c _ (i 0).isLt]

/-! ## The chunks' rows -/

/-- The offsets of a chunk of the result. -/
theorem off3_eq (c : Dev nD) (k : Fin 8) : k0_off3 c (BitVec.ofNat 32 (64 * k.val)) = ![512 * (c.val % 2) + 64 * k.val, 0] := k0_off3_eq c k
theorem off4_eq (c : Dev nD) (k : Fin 8) : k0_off4 c (BitVec.ofNat 32 (64 * k.val)) = ![512 * (c.val % 2) + 64 * k.val, 0] := k0_off4_eq c k

/-- An index is in the unit-stride rows `[o, o + 64)`, all 1024 columns, iff its row is. -/
theorem mem_rows {n : ℕ} {off : Fin 2 → ℕ} {o : ℕ} (hoff : off = ![o, 0])
    (inb : ∀ a, off a + S64x1024.size a ≤ (⟨2, ![n, 1024]⟩ : Shape).size a) (i : (⟨2, ![n, 1024]⟩ : Shape).Idx) :
    i ∈ (Rect.unit (s := ⟨2, ![n, 1024]⟩) off S64x1024.size inb).set ↔ o ≤ (i 0).val ∧ (i 0).val < o + 64 := by
  subst hoff
  rw [Rect.mem_set_unit]
  constructor
  · intro h; exact h 0
  · intro h a
    match a with
    | ⟨0, _⟩ => exact h
    | ⟨1, _⟩ => exact ⟨Nat.zero_le _, by have := (i 1).isLt; exact this⟩

theorem mem_pC (k : Fin 8) (i : S512x1024.Idx) : i ∈ (pC k).view.set ↔ (i 0).val / 64 = k.val := by
  have h : i ∈ (pC k).view.set ↔ i ∈ (rk k).set := by rw [show (pC k).view.set = (rk k).set from View.set_slice_whole _ _]
  rw [h, mem_rows (n := 512) (o := 64 * k.val) rfl]; omega
theorem mem_xC (k : Fin 8) (i : S512x1024.Idx) : i ∈ (xC k).view.set ↔ (i 0).val / 64 = k.val := by
  have h : i ∈ (xC k).view.set ↔ i ∈ (rk k).set := by rw [show (xC k).view.set = (rk k).set from View.set_slice_whole _ _]
  rw [h, mem_rows (n := 512) (o := 64 * k.val) rfl]; omega
theorem mem_oC (c : Dev nD) (k : Fin 8) (i : S1024x1024.Idx) : i ∈ (oC c k).view.set ↔ (i 0).val / 64 = 8 * (c.val % 2) + k.val := by
  have h : i ∈ (oC c k).view.set ↔ i ∈ (ok4 c k).set := by rw [show (oC c k).view.set = (ok4 c k).set from View.set_slice_whole _ _]
  rw [h, mem_rows (n := 1024) (off4_eq c k)]; omega
theorem mem_oA (c : Dev nD) (k : Fin 8) (i : S1024x1024.Idx) : i ∈ (oM.access (ok3 c k)).set ↔ (i 0).val / 64 = 8 * (c.val % 2) + k.val := by
  have h : i ∈ (oM.access (ok3 c k)).set ↔ i ∈ (ok3 c k).set := by rw [show (oM.access (ok3 c k)).set = (ok3 c k).set from View.set_slice_whole _ _]
  rw [h, mem_rows (n := 1024) (off3_eq c k)]; omega

/-- The store's rows are the transfer's. -/
theorem oA_set (c : Dev nD) (k : Fin 8) : (oM.access (ok3 c k)).set = (oC c k).view.set :=
  Finset.ext fun i => (mem_oA c k i).trans (mem_oC c k i).symm

/-! ## Splitting the buffers into chunks -/

/-- The eight chunks of the partial sum's buffer are the buffer, -/
theorem pSplit (c : Dev nD) (q : PosShare TreeShare) (f : Half F) :
    (((c : Thread nD τ).loc cc0_scratch0) ↦{q} f : sProp 𝕄) = bigSep Finset.univ fun k : Fin 8 => (pC k).view.loc (c : Thread nD τ) ↦[(pC k).view.set]{q} f := by
  have hu : (Finset.univ : Finset S512x1024.Idx) = Finset.univ.biUnion fun k : Fin 8 => ((pC k).view.set : Finset S512x1024.Idx) := by
    ext i; simp only [Finset.mem_univ, Finset.mem_biUnion, true_and, true_iff]
    exact ⟨⟨(i 0).val / 64, by have h : (i 0).val < 512 := (i 0).isLt; omega⟩, (mem_pC _ i).mpr rfl⟩
  have hd : ∀ k ∈ (Finset.univ : Finset (Fin 8)), ∀ k' ∈ (Finset.univ : Finset (Fin 8)), k ≠ k' → Disjoint ((pC k).view.set : Finset S512x1024.Idx) (pC k').view.set :=
    fun k _ k' _ hne => Finset.disjoint_left.mpr fun i h h' => hne (Fin.ext (((mem_pC k i).mp h).symm.trans ((mem_pC k' i).mp h')))
  exact (congrArg (fun S => (((c : Thread nD τ).loc cc0_scratch0) ↦[S]{q} f : sProp 𝕄)) hu).trans (pointsTo_biUnion _ _ hd)

/-- the eight chunks of the partner's likewise, -/
theorem xSplit (c : Dev nD) (q : PosShare TreeShare) (f : Half F) :
    (((c : Thread nD τ).loc cc0_scratch2) ↦{q} f : sProp 𝕄) = bigSep Finset.univ fun k : Fin 8 => (xC k).view.loc (c : Thread nD τ) ↦[(xC k).view.set]{q} f := by
  have hu : (Finset.univ : Finset S512x1024.Idx) = Finset.univ.biUnion fun k : Fin 8 => ((xC k).view.set : Finset S512x1024.Idx) := by
    ext i; simp only [Finset.mem_univ, Finset.mem_biUnion, true_and, true_iff]
    exact ⟨⟨(i 0).val / 64, by have h : (i 0).val < 512 := (i 0).isLt; omega⟩, (mem_xC _ i).mpr rfl⟩
  have hd : ∀ k ∈ (Finset.univ : Finset (Fin 8)), ∀ k' ∈ (Finset.univ : Finset (Fin 8)), k ≠ k' → Disjoint ((xC k).view.set : Finset S512x1024.Idx) (xC k').view.set :=
    fun k _ k' _ hne => Finset.disjoint_left.mpr fun i h h' => hne (Fin.ext (((mem_xC k i).mp h).symm.trans ((mem_xC k' i).mp h')))
  exact (congrArg (fun S => (((c : Thread nD τ).loc cc0_scratch2) ↦[S]{q} f : sProp 𝕄)) hu).trans (pointsTo_biUnion _ _ hd)

/-- Device `d`'s half of the result on device `c`, chunk by chunk. -/
def oHalf (c d : Dev nD) (f : Full F) : sProp 𝕄 :=
  bigSep Finset.univ fun k : Fin 8 => (oC d k).view.loc (c : Thread nD τ) ↦[(oC d k).view.set]{fullShare} f

/-- and the result's buffer is device `c`'s own half and its partner's along y. -/
theorem oSplit (c : Dev nD) (f : Full F) :
    (((c : Thread nD τ).loc cc0_stg1_0) ↦{fullShare} f : sProp 𝕄) = iprop(oHalf c c f ∗ oHalf c (yp c) f) := by
  have hc := c.isLt
  let dv : Bool → Dev nD := fun b => if b then yp c else c
  have hu : (Finset.univ : Finset S1024x1024.Idx) = Finset.univ.biUnion fun bk : Bool × Fin 8 => ((oC (dv bk.1) bk.2).view.set : Finset S1024x1024.Idx) := by
    ext i; simp only [Finset.mem_univ, Finset.mem_biUnion, true_and, true_iff]
    have h : (i 0).val < 1024 := (i 0).isLt
    refine ⟨(decide ((i 0).val / 512 ≠ c.val % 2), ⟨(i 0).val % 512 / 64, by omega⟩), (mem_oC _ _ i).mpr ?_⟩
    show (i 0).val / 64 = 8 * ((dv (decide ((i 0).val / 512 ≠ c.val % 2))).val % 2) + (i 0).val % 512 / 64
    by_cases e : (i 0).val / 512 = c.val % 2
    · rw [decide_eq_false (by simpa using e)]; show _ = 8 * (c.val % 2) + _; omega
    · rw [decide_eq_true (by simpa using e)]; show _ = 8 * ((yp c).val % 2) + _; rw [yp_col]; omega
  have hd : ∀ k ∈ (Finset.univ : Finset (Bool × Fin 8)), ∀ k' ∈ (Finset.univ : Finset (Bool × Fin 8)), k ≠ k' →
      Disjoint ((oC (dv k.1) k.2).view.set : Finset S1024x1024.Idx) (oC (dv k'.1) k'.2).view.set := by
    rintro ⟨b, k⟩ - ⟨b', k'⟩ - hne
    refine Finset.disjoint_left.mpr fun i h h' => hne ?_
    have e := ((mem_oC _ k i).mp h).symm.trans ((mem_oC _ k' i).mp h')
    have hy := yp_col c
    have hk := k.isLt
    have hk' := k'.isLt
    cases b <;> cases b' <;> simp only [dv, Bool.false_eq_true, if_false, if_true] at e <;> first
      | exact Prod.ext rfl (Fin.ext (by simp only; omega))
      | omega
  refine ((congrArg (fun S => (((c : Thread nD τ).loc cc0_stg1_0) ↦[S]{fullShare} f : sProp 𝕄)) hu).trans (pointsTo_biUnion _ _ hd)).trans ?_
  rw [bigSep_univ_prod, bigSep_univ_eq_bigSepL [false, true] (by decide) (by decide), bigSepL_cons_cons, bigSepL_singleton]
  rfl

/-! ## What the transfers and the stores leave -/

/-- Writing through a chunk what is read through the same chunk of another buffer copies the chunk's rows: -/
theorem write_xC (k : Fin 8) (f g : Half F) (i : S512x1024.Idx) (hi : i ∈ (xC k).view.set) :
    (xC k).view.write (Elt F) f ((pC k).view.read (Elt F) g) Finset.univ i = g i := by
  obtain ⟨x, hx⟩ := View.exists_of_mem_set_slice hi
  have h := View.write_emb_of_mem (v := (xC k).view) (Val := Elt F) f ((pC k).view.read (Elt F) g) (Finset.mem_univ x)
  have e : (xC k).view.emb x = i := hx
  rw [e] at h
  rw [h, ← e]; rfl
theorem write_oC (c : Dev nD) (k : Fin 8) (f g : Full F) (i : S1024x1024.Idx) (hi : i ∈ (oC c k).view.set) :
    (oC c k).view.write (Elt F) f ((oC c k).view.read (Elt F) g) Finset.univ i = g i := by
  obtain ⟨x, hx⟩ := View.exists_of_mem_set_slice hi
  have h := View.write_emb_of_mem (v := (oC c k).view) (Val := Elt F) f ((oC c k).view.read (Elt F) g) (Finset.mem_univ x)
  have e : (oC c k).view.emb x = i := hx
  rw [e] at h
  rw [h, ← e]; rfl

/-- a chunk's store leaves the result's rows. -/
theorem write_oA (c : Dev nD) (k : Fin 8) (f : Full F) (i : S1024x1024.Idx) (hi : i ∈ (oC c k).view.set) :
    (oM.access (ok3 c k)).write (Elt F) f (outChunk m c k) Finset.univ i = outAt m c i := by
  rw [← oA_set] at hi
  obtain ⟨x, hx⟩ := View.exists_of_mem_set_slice hi
  have h := View.write_emb_of_mem (v := oM.access (ok3 c k)) (Val := Elt F) f (outChunk m c k) (Finset.mem_univ x)
  have e : (oM.access (ok3 c k)).emb x = i := hx
  rw [e] at h
  have x0 : (x 0).val < 64 := (x 0).isLt
  have hk := k.isLt
  have e0 : (i 0).val = 512 * (c.val % 2) + 64 * k.val + (x 0).val := by
    rw [← e]
    show (k0_off3 c (BitVec.ofNat 32 (64 * k.val))) 0 + 1 * (x 0).val = _
    rw [off3_eq, Nat.one_mul]; rfl
  have e1 : (i 1).val = (x 1).val := by
    rw [← e]
    show (k0_off3 c (BitVec.ofNat 32 (64 * k.val))) 1 + 1 * (x 1).val = _
    rw [off3_eq, Nat.one_mul]; exact Nat.zero_add _
  rw [h]
  show outChunk m c k x = outAt m c i
  unfold outAt
  have ho : owner c (i 0).val = c := if_pos (by omega)
  have hkk : (⟨(i 0).val % 512 / 64, by omega⟩ : Fin 8) = k := Fin.ext (by simp only; omega)
  have hxx : rowCol ⟨(i 0).val % 64, Nat.mod_lt _ (by decide)⟩ ⟨(i 1).val, (i 1).isLt⟩ = x := by
    funext a
    match a with
    | ⟨0, _⟩ => exact Fin.ext (show (i 0).val % 64 = (x 0).val by omega)
    | ⟨1, _⟩ => exact Fin.ext e1
  rw [ho, hkk, hxx]

end Cert.Proof.Run
-- ==== Proof.Schedule.lean ====
/-
  The protocol: the cells (one per semaphore), the duties of each cell's one round, what each duty carries, what every device
  owes, and the order of waits.

  Written for device `c`, with partners `xp c` and `yp c`:
  * the barrier cell has two duties of one unit: `true`, paid by `xp c`, carries `xp c`'s receive buffer (so `c` may send into
    it); `false`, paid by `yp c`, carries the rows of `c`'s half in `yp c`'s result buffer;
  * the cells `p` and `r` have one duty each, paid by the local copy: the filled scratch buffer and the copied rows back;
  * chunk `k` has four cells: x send (the sent chunk's share back), x receive (the partner's chunk landed), y send (the sent
    rows back), y receive (the partner's rows landed).
-/
module

public import proofs.«01_k».proof.Proof.Contents

@[expose] public section

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells -/

/-- The cells of a device: barrier, `p`, `r`; then four families of eight. -/
abbrev CI : Type := Fin 3 ⊕ (Fin 4 × Fin 8)
abbrev iBar : CI := .inl 0
abbrev iP : CI := .inl 1
abbrev iR : CI := .inl 2
abbrev iXs (k : Fin 8) : CI := .inr (0, k)
abbrev iXr (k : Fin 8) : CI := .inr (1, k)
abbrev iYs (k : Fin 8) : CI := .inr (2, k)
abbrev iYr (k : Fin 8) : CI := .inr (3, k)

/-- The semaphore of a cell, -/
def csem : CI → SemLoc sig
  | .inl 0 => .reg barS
  | .inl 1 => .dma pS
  | .inl 2 => .dma rS
  | .inr (j, k) => .dma (cS j k)

/-- and the cell of a semaphore. -/
def role : SemLoc sig → Option CI
  | .reg s => some iBar
  | .dma q => if h : 4 ≤ (q : Fin 36).val then some (.inr (⟨((q : Fin 36).val - 4) / 8, by have hq : (q : Fin 36).val < 36 := (q : Fin 36).isLt; omega⟩, ⟨((q : Fin 36).val - 4) % 8, by omega⟩))
      else if (q : Fin 36).val = 2 then some iP else if (q : Fin 36).val = 3 then some iR else none

theorem role_csem (i : CI) : role (csem i) = some i := by revert i; decide

theorem csem_injective : Function.Injective csem := fun i j h => by
  have := congrArg role h; rw [role_csem, role_csem] at this; exact Option.some.inj this

abbrev kcell (ci : Dev nD × CI) : GSem nD τ sig := ((ci.1 : Thread nD τ), csem ci.2)

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-! ## Credits -/

/-- A chunk's credit and a half's. -/
abbrev N : ℕ := (xC 0).view.dmaCredit
abbrev NP : ℕ := (pM).view.dmaCredit
theorem N_pos : 0 < N := View.dmaCredit_pos _ (by decide)
theorem NP_pos : 0 < NP := View.dmaCredit_pos _ (by decide)

/-! ## The schedule -/

/-- The share of the partial sum's buffer the sends read with; the other half stays for the loads. -/
abbrev qR : PosShare TreeShare := fullShare.right
abbrev qL : PosShare TreeShare := fullShare.left

/-- What a duty of cell `i` of device `c` carries. -/
def pay (c : Dev nD) : CI → Bool → sProp 𝕄
  | .inl 0, true => iprop(∃ f : Half F, ((xp c : Thread nD τ).loc cc0_scratch2) ↦{fullShare} f)
  | .inl 0, false => iprop(∃ f : Full F, oHalf (yp c) c f)
  | .inl 1, _ => iprop((((c : Thread nD τ).loc cc0_scratch0) ↦{fullShare} pAt m c)
      ∗ (aH c).view.loc (c : Thread nD τ) ↦[(aH c).view.set]{fullShare} m ((c : Thread nD τ).loc main_arg0))
  | .inl 2, _ => iprop((((c : Thread nD τ).loc cc0_scratch1) ↦{fullShare} rAt m c)
      ∗ (bH c).view.loc (c : Thread nD τ) ↦[(bH c).view.set]{fullShare} m ((c : Thread nD τ).loc main_arg1))
  | .inr (0, k), _ => (pC k).view.loc (c : Thread nD τ) ↦[(pC k).view.set]{qR} pAt m c
  | .inr (1, k), _ => (xC k).view.loc (c : Thread nD τ) ↦[(xC k).view.set]{fullShare} pAt m (xp c)
  | .inr (2, k), _ => (oC c k).view.loc (c : Thread nD τ) ↦[(oC c k).view.set]{fullShare} outAt m c
  | .inr (3, k), _ => (oC (yp c) k).view.loc (c : Thread nD τ) ↦[(oC (yp c) k).view.set]{fullShare} outAt m c

/-- The duties of a cell's round and the credit of each. -/
def dut : CI → Finset Bool
  | .inl 0 => Finset.univ
  | _ => {false}
def amt : CI → ℕ
  | .inl 0 => 1
  | .inl _ => NP
  | .inr _ => N

theorem amt_pos (i : CI) : 0 < amt i := by
  unfold amt; split
  · exact Nat.one_pos
  · exact NP_pos
  · exact N_pos

/-- One round, round 0, on every cell. -/
def Rd : Rounds.Schedule (GSem nD τ sig) Bool 𝕄 where
  duties g r := if r = 0 ∧ g.1.2 = .tc then (role g.2).elim ∅ dut else ∅
  unitless _ := False
  amount g _ _ := (role g.2).elim 1 amt
  payload g _ d := (role g.2).elim iprop(emp) fun i => pay m g.1.1 i d
  amount_pos g _ _ _ := by cases h : role g.2 with
    | none => exact Nat.one_pos
    | some i => exact amt_pos i

instance pay_storable (c : Dev nD) (i : CI) (d : Bool) : BI.Storable (upEmb : UEmb _ 𝕄) (pay m c i d) := by
  unfold pay oHalf; split <;> infer_instance

instance Rd_payload_storable (g : GSem nD τ sig) (r : ℕ) (d : Bool) :
    BI.Storable (upEmb : UEmb _ 𝕄) ((Rd m).payload g r d) := by
  show BI.Storable upEmb ((role g.2).elim iprop(emp) fun i => pay m g.1.1 i d)
  cases role g.2 with
  | none => show BI.Storable upEmb iprop(emp); infer_instance
  | some i => show BI.Storable upEmb (pay m g.1.1 i d); infer_instance

theorem duties_at (c : Dev nD) (i : CI) : (Rd m).duties (kcell (c, i)) 0 = dut i := by
  dsimp only [Rd]; rw [if_pos ⟨rfl, rfl⟩, role_csem]; rfl
theorem duties_later (g : GSem nD τ sig) : ∀ r, 1 ≤ r → (Rd m).duties g r = ∅ := fun r hr => by
  dsimp only [Rd]; exact if_neg fun h => by omega
theorem amount_at (c : Dev nD) (i : CI) (d : Bool) : (Rd m).amount (kcell (c, i)) 0 d = amt i := by
  dsimp only [Rd]; rw [role_csem]; rfl
theorem payload_at (c : Dev nD) (i : CI) (d : Bool) : (Rd m).payload (kcell (c, i)) 0 d = pay m c i d := by
  dsimp only [Rd]; rw [role_csem]; rfl

theorem false_mem_dut (i : CI) : false ∈ dut i := by revert i; decide
/-- Every cell but the barrier's has the one duty `false`. -/
theorem dut_one {i : CI} (h : i ≠ iBar) : dut i = {false} := by revert i; decide

theorem expect_bar (c : Dev nD) : (Rd m).expect (kcell (c, iBar)) 0 = 2 := by
  unfold Schedule.expect Schedule.amountOf
  rw [duties_at, Finset.sum_congr rfl fun d _ => amount_at m c iBar d]; rfl
theorem expect_one (c : Dev nD) {i : CI} (h : i ≠ iBar) : (Rd m).expect (kcell (c, i)) 0 = amt i := by
  unfold Schedule.expect Schedule.amountOf
  rw [duties_at, dut_one h, Finset.sum_singleton, amount_at]

/-- What the barrier wait returns, -/
theorem rest_bar (c : Dev nD) : bigSep ((Rd m).duties (kcell (c, iBar)) 0 \ ∅) (fun d => (Rd m).payload (kcell (c, iBar)) 0 d)
    = iprop(pay m c iBar false ∗ pay m c iBar true) := by
  rw [Finset.sdiff_empty, duties_at, show dut iBar = Finset.univ from rfl, bigSep_univ_eq_bigSepL [false, true] (by decide) (by decide), bigSepL_cons_cons,
    bigSepL_singleton, payload_at, payload_at]
  rfl
/-- and a wait on any other cell. -/
theorem rest_one (c : Dev nD) {i : CI} (h : i ≠ iBar) : bigSep ((Rd m).duties (kcell (c, i)) 0 \ ∅) (fun d => (Rd m).payload (kcell (c, i)) 0 d)
    = pay m c i false := by
  rw [Finset.sdiff_empty, duties_at, dut_one h, bigSep_singleton, payload_at]

/-! ## What a device owes -/

/-- The credit of the x transfers from chunk `j` on, owed to the partner's receive cells, -/
def OX (c : Dev nD) (j : ℕ) : CellTallies nD τ sig Unit := ∑ k ∈ Finset.univ.filter (fun k : Fin 8 => j ≤ k.val), tallyAt (kcell (xp c, iXr k)) () N
/-- of the y transfers likewise; -/
def OY (c : Dev nD) (j : ℕ) : CellTallies nD τ sig Unit := ∑ k ∈ Finset.univ.filter (fun k : Fin 8 => j ≤ k.val), tallyAt (kcell (yp c, iYr k)) () N
/-- after the second signal; after the first; at launch. -/
def O₂ (c : Dev nD) : CellTallies nD τ sig Unit := OY c 0 + OX c 0
def O₁ (c : Dev nD) : CellTallies nD τ sig Unit := O₂ c + tallyAt (kcell (yp c, iBar)) () 1
def O₀ (c : Dev nD) : CellTallies nD τ sig Unit := O₁ c + tallyAt (kcell (xp c, iBar)) () 1

theorem tail_step {M : Type} [AddCommMonoid M] (f : Fin 8 → M) (k : Fin 8) :
    ∑ i ∈ Finset.univ.filter (fun i : Fin 8 => k.val ≤ i.val), f i = (∑ i ∈ Finset.univ.filter (fun i : Fin 8 => k.val + 1 ≤ i.val), f i) + f k := by
  have h : Finset.univ.filter (fun i : Fin 8 => k.val ≤ i.val) = insert k (Finset.univ.filter fun i : Fin 8 => k.val + 1 ≤ i.val) := by
    ext i; simp only [Finset.mem_filter, Finset.mem_univ, true_and, Finset.mem_insert, Fin.ext_iff]; omega
  rw [h, Finset.sum_insert (by simp), add_comm]

theorem OX_step (c : Dev nD) (k : Fin 8) : OX c k.val = OX c (k.val + 1) + tallyAt (kcell (xp c, iXr k)) () N := tail_step _ k
theorem OY_step (c : Dev nD) (k : Fin 8) : OY c k.val = OY c (k.val + 1) + tallyAt (kcell (yp c, iYr k)) () N := tail_step _ k
theorem OX_end (c : Dev nD) : OX c 8 = 0 := by
  unfold OX; rw [Finset.filter_false_of_mem fun k _ => by have := k.isLt; omega, Finset.sum_empty]
theorem OY_end (c : Dev nD) : OY c 8 = 0 := by
  unfold OY; rw [Finset.filter_false_of_mem fun k _ => by have := k.isLt; omega, Finset.sum_empty]

/-! ## Levels: a device waits on a cell only while everything it owes is of a higher level -/

def L (g : GSem nD τ sig) : Finset Unit := if g.1.2 = .tc then {()} else ∅
def lvI : CI → ℕ
  | .inl 0 => 1
  | .inl _ => 0
  | .inr (1, _) => 2
  | .inr (3, _) => 3
  | .inr _ => 0
def lv (g : GSem nD τ sig) (_ : Unit) : ℕ := (role g.2).elim 0 lvI

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (i : CI) : lv (kcell (c, i)) () = lvI i := by unfold lv; rw [role_csem]; rfl

/-- Everything owed is on a TensorCore's cell above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem above_sum {n : ℕ} {T : Type} [DecidableEq T] (S : Finset T) (f : T → CellTallies nD τ sig Unit) (h : ∀ t, Above n (f t)) : Above n (∑ t ∈ S, f t) := by
  induction S using Finset.induction_on with
  | empty => rw [Finset.sum_empty]; exact above_zero n
  | insert t S ht ih => rw [Finset.sum_insert ht]; exact above_add (h t) ih
theorem above_tally {n : ℕ} (c : Dev nD) (i : CI) (a : ℕ) (h : n < lvI i) : Above n (tallyAt (kcell (c, i)) () a) := fun g u hp => by
  rw [tallyAt_apply] at hp
  by_cases e : g = kcell (c, i) ∧ u = ()
  · rw [e.1]; exact ⟨rfl, by rw [lv_at]; exact h⟩
  · rw [if_neg e] at hp; exact absurd hp (Nat.lt_irrefl 0)

theorem above_OX {n : ℕ} (h : n < 2) (c : Dev nD) (j : ℕ) : Above n (OX c j) := above_sum _ _ fun k => above_tally _ _ _ h
theorem above_OY {n : ℕ} (h : n < 3) (c : Dev nD) (j : ℕ) : Above n (OY c j) := above_sum _ _ fun k => above_tally _ _ _ h
theorem above_O₂ (c : Dev nD) : Above 1 (O₂ c) := above_add (above_OY (by decide) c 0) (above_OX (by decide) c 0)
theorem above_O₀ (c : Dev nD) : Above 0 (O₀ c) :=
  above_add (above_add (above_add (above_OY (by decide) c 0) (above_OX (by decide) c 0)) (above_tally _ _ _ (by decide))) (above_tally _ _ _ (by decide))

/-- A wait on a cell of level at most `n` is allowed while everything owed is above `n`. -/
theorem mayWait {n : ℕ} {O : CellTallies nD τ sig Unit} (h : Above n O) (c : Dev nD) (sm : SemLoc sig) (hl : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hl) (fun g u hg => (h g u hg).2)

end Cert.Proof.Run
-- ==== Proof.Steps.lean ====
/-
  The body's repeated steps, each proved once at a symbolic device and chunk: a wait that closes its cell, the send of a chunk
  along x, a chunk's work, a chunk's closing waits; and the rule for eight operations in a row.
-/
module

public import proofs.«01_k».proof.Proof.Schedule

@[expose] public section

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a rest of the body on device `c`. -/
abbrev Wp (c : Dev nD) (Q : PUnit → sProp 𝕄) (p : PT F) : sProp 𝕄 := wp frame (wpE (defs₀ (F := F)) 𝒱₀ (c : Thread nD τ) none) Set.univ p Q

/-! ## What stays known throughout -/

/-- Every cell's invariant, under the name `K` gives it, and that every cell is at round 0 or later; -/
def records (K : Dev nD × CI → ℕ) : sProp 𝕄 :=
  iprop((bigSep Finset.univ fun ci : Dev nD × CI => cellInv ER (Rd m) (K ci) (kcell ci))
    ∗ bigSep Finset.univ fun ci : Dev nD × CI => reached ER (kcell ci) 0)
instance records_persistent (K : Dev nD × CI → ℕ) : BI.Persistent (records m K) := by unfold records; infer_instance

/-- with the levels. -/
def env (K : Dev nD × CI → ℕ) : sProp 𝕄 := iprop(records m K ∗ levAts L lv)
instance env_persistent (K : Dev nD × CI → ℕ) : BI.Persistent (env m K) := by unfold env; infer_instance

variable (K : Dev nD × CI → ℕ)

theorem inv_at (ci : Dev nD × CI) :
    (bigSep Finset.univ fun ci : Dev nD × CI => (cellInv ER (Rd m) (K ci) (kcell ci) : sProp 𝕄)) ⊢ cellInv ER (Rd m) (K ci) (kcell ci) :=
  bigSep_elim (Finset.mem_univ ci)
theorem reached_at (ci : Dev nD × CI) :
    (bigSep Finset.univ fun ci : Dev nD × CI => (reached ER (kcell ci) 0 : sProp 𝕄)) ⊢ reached ER (kcell ci) 0 :=
  bigSep_elim (Finset.mem_univ ci)
theorem env_inv (ci : Dev nD × CI) : env m K ⊢ cellInv ER (Rd m) (K ci) (kcell ci) := by
  unfold env records
  iintro ⟨⟨H, -⟩, -⟩
  iapply (inv_at m K ci); iexact H
theorem env_reached (ci : Dev nD × CI) : env m K ⊢ reached ER (kcell ci) 0 := by
  unfold env records
  iintro ⟨⟨-, H⟩, -⟩
  iapply (reached_at (F := F) ci); iexact H
theorem env_lev : env m K ⊢ levAts L lv := by
  unfold env; iintro ⟨-, H⟩; iexact H

/-! ## Eight operations in a row -/

theorem fin8_bigSep (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Eight operations, the `k`-th turning `Pre k` and `R k` into `Post k` and `R (k + 1)`, turn all of `Pre` and `R 0` into all
    of `Post` and `R 8`. -/
theorem each8_wp (c : Dev nD) (Q : PUnit → sProp 𝕄) (f : Fin 8 → PT F → PT F) (Pre Post : Fin 8 → sProp 𝕄) (R : ℕ → sProp 𝕄)
    (h : ∀ (k : Fin 8) (p : PT F), iprop(Pre k ∗ R k.val ∗ (Post k ∗ R (k.val + 1) -∗ Wp c Q p)) ⊢ Wp c Q (f k p)) (p : PT F) :
    iprop(bigSep Finset.univ Pre ∗ R 0 ∗ (bigSep Finset.univ Post ∗ R 8 -∗ Wp c Q p)) ⊢ Wp c Q (each8 f p) := by
  rw [fin8_bigSep, fin8_bigSep]
  have h0 : ∀ p, iprop(Pre 0 ∗ R 0 ∗ (Post 0 ∗ R 1 -∗ Wp c Q p)) ⊢ Wp c Q (f 0 p) := h 0
  have h1 : ∀ p, iprop(Pre 1 ∗ R 1 ∗ (Post 1 ∗ R 2 -∗ Wp c Q p)) ⊢ Wp c Q (f 1 p) := h 1
  have h2 : ∀ p, iprop(Pre 2 ∗ R 2 ∗ (Post 2 ∗ R 3 -∗ Wp c Q p)) ⊢ Wp c Q (f 2 p) := h 2
  have h3 : ∀ p, iprop(Pre 3 ∗ R 3 ∗ (Post 3 ∗ R 4 -∗ Wp c Q p)) ⊢ Wp c Q (f 3 p) := h 3
  have h4 : ∀ p, iprop(Pre 4 ∗ R 4 ∗ (Post 4 ∗ R 5 -∗ Wp c Q p)) ⊢ Wp c Q (f 4 p) := h 4
  have h5 : ∀ p, iprop(Pre 5 ∗ R 5 ∗ (Post 5 ∗ R 6 -∗ Wp c Q p)) ⊢ Wp c Q (f 5 p) := h 5
  have h6 : ∀ p, iprop(Pre 6 ∗ R 6 ∗ (Post 6 ∗ R 7 -∗ Wp c Q p)) ⊢ Wp c Q (f 6 p) := h 6
  have h7 : ∀ p, iprop(Pre 7 ∗ R 7 ∗ (Post 7 ∗ R 8 -∗ Wp c Q p)) ⊢ Wp c Q (f 7 p) := h 7
  unfold each8
  iintro ⟨⟨H0, H1, H2, H3, H4, H5, H6, H7⟩, HR, Hk⟩
  iapply (h0 _); isplitl [H0]; · iexact H0
  isplitl [HR]; · iexact HR
  iintro ⟨G0, HR⟩
  iapply (h1 _); isplitl [H1]; · iexact H1
  isplitl [HR]; · iexact HR
  iintro ⟨G1, HR⟩
  iapply (h2 _); isplitl [H2]; · iexact H2
  isplitl [HR]; · iexact HR
  iintro ⟨G2, HR⟩
  iapply (h3 _); isplitl [H3]; · iexact H3
  isplitl [HR]; · iexact HR
  iintro ⟨G3, HR⟩
  iapply (h4 _); isplitl [H4]; · iexact H4
  isplitl [HR]; · iexact HR
  iintro ⟨G4, HR⟩
  iapply (h5 _); isplitl [H5]; · iexact H5
  isplitl [HR]; · iexact HR
  iintro ⟨G5, HR⟩
  iapply (h6 _); isplitl [H6]; · iexact H6
  isplitl [HR]; · iexact HR
  iintro ⟨G6, HR⟩
  iapply (h7 _); isplitl [H7]; · iexact H7
  isplitl [HR]; · iexact HR
  iintro ⟨G7, HR⟩
  iapply Hk
  isplitr [HR]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  iexact HR

/-! ## A wait on a transfer's cell -/

/-- A wait on a cell other than the barrier's, of level at most `n`, while everything owed is above `n`: it spends the cell's
    credit and the position, and returns what the cell's duty carries and the counter at zero. -/
theorem wait_take (c : Dev nD) (i : CI) (hi : i ≠ iBar) (s : DmaSem sig) (hs : csem i = .dma s)
    {sp sp' : Space} {s₁ s₂ : Shape} {e₁ e₂ : EltTy} {src : Memref sig (c : Thread nD τ).2.kind sp' s₁ e₁} {κ' : Kind} {dst : Memref sig κ' sp s₂ e₂}
    {hsrc : src.view.WordExact} {hdst : dst.view.WordExact} (hN : dst.view.dmaCredit = amt i)
    {n : ℕ} {O : CellTallies nD τ sig Unit} (hO : Above n O) (hl : lvI i ≤ n) (W : Waits sig Unit) (Q : PUnit → sProp 𝕄)
    (k : PUnit → PT F) :
    iprop(env m K ∗ cred (tallyAt (kcell (c, i)) () (amt i)) ∗ owes (c : Thread nD τ) O W ∗ atPos ER (kcell (c, i)) 0 ∅ 0)
      ⊢ iprop((((∃ W', owes (c : Thread nD τ) O W') ∗ semVal (kcell (c, i)) 0 ∗ pay m c i false) -∗ Wp c Q (k ⟨⟩))
          -∗ Wp c Q (.op (.waitDma2 s src dst hsrc hdst) k)) := by
  have hexp := expect_one m c hi
  have hrest := rest_one m c hi
  have hmw := mayWait (F := F) hO c (csem i) (by rw [show lv ((c : Thread nD τ), csem i) () = lvI i from lv_at c i]; exact hl)
  have hlater := duties_later m (kcell (c, i))
  iintro ⟨#He, Hc, HO, Hat⟩
  iintro Hk
  ihave #HI := (env_inv m K (c, i)) $$ He
  ihave #Hlev := (env_lev m K) $$ He
  dsimp only [kcell] at hexp hrest hlater ⊢
  rw [hs] at hexp hrest hmw hlater ⊢
  rw [← hN] at hexp ⊢
  iapply (Rounds.wp_wait_rest_token 𝒱₀ ER (Rd m) (c : Thread nD τ) none (κ := K (c, i))
      (wpE_waitDma2_eq 𝒱₀ (c : Thread nD τ) none Set.univ) (Set.mem_univ _) () (O := O) (W := W) (R := 0) (m := 0) (T := ∅)
      (by rw [Nat.zero_add, hexp])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hpay := (Entails.of_eq hrest) $$ Hpay
  imod (Rounds.cell_close ER (Rd m) (Set.mem_univ (K (c, i))) (fun h => h) (R := 0 + 1) hlater) $$ [Hat] with Hz
  · isplitr; · iexact HI
    iexact Hat
  iapply Hk
  isplitl [HO]; · iexists _; iexact HO
  isplitl [Hz]; · iexact Hz
  iexact Hpay

/-! ## The send of a chunk along x -/

/-- What the send of chunk `k` along x needs: its two duties, the chunk's share to read, the partner's rows to write; -/
def xPre (c : Dev nD) (f : Half F) (k : Fin 8) : sProp 𝕄 :=
  iprop(dutyTok ER (kcell (c, iXs k)) 0 false ∗ dutyTok ER (kcell (xp c, iXr k)) 0 false
    ∗ ((pC k).view.loc (c : Thread nD τ) ↦[(pC k).view.set]{qR} pAt m c)
    ∗ (xC k).view.loc (xp c : Thread nD τ) ↦[(xC k).view.set]{fullShare} f)
/-- it gives the send cell's credit, -/
def xPost (c : Dev nD) (k : Fin 8) : sProp 𝕄 := cred (tallyAt (kcell (c, iXs k)) () N)
/-- paying the partner's receive cell. -/
def xR (c : Dev nD) (W : Waits sig Unit) (j : ℕ) : sProp 𝕄 := iprop(env m K ∗ owes (c : Thread nD τ) (OY c 0 + OX c j) W)

set_option maxHeartbeats 1600000 in
theorem xsend_step (c : Dev nD) (f : Half F) (W : Waits sig Unit) (Q : PUnit → sProp 𝕄) (k : Fin 8) (p : PT F) :
    iprop(xPre m c f k ∗ xR m K c W k.val ∗ (xPost c k ∗ xR m K c W (k.val + 1) -∗ Wp c Q p)) ⊢ Wp c Q (xsendOp k (xp c) p) := by
  unfold xPre xPost xR xsendOp
  iintro ⟨⟨HtS, HtR, Hp, Hx⟩, ⟨#He, HO⟩, Hk⟩
  ihave #HIs := (env_inv m K (c, iXs k)) $$ He
  ihave #HIr := (env_inv m K (xp c, iXr k)) $$ He
  ihave #Hrs := (env_reached m K (c, iXs k)) $$ He
  ihave #Hrr := (env_reached m K (xp c, iXr k)) $$ He
  iapply (Rounds.wp_send_pointsTo 𝒱₀ ER (Rd m) (c : Thread nD τ) none (c' := (xp c : Thread nD τ)) (src := pC k) (dst := xC k) (sS := .dma (cS 0 k)) (sem := .dma (cS 1 k))
    (κ₁ := K (c, iXs k)) (κ₂ := K (xp c, iXr k))
    (r₁ := 0) (r₂ := 0) (d₁ := false) (d₂ := false) (fd := f)
    (by rw [show (Rd m).duties ((c : Thread nD τ), .dma (cS 0 k)) 0 = dut (iXs k) from duties_at m c (iXs k)]; exact false_mem_dut _)
    (by rw [show (Rd m).duties ((xp c : Thread nD τ), .dma (cS 1 k)) 0 = dut (iXr k) from duties_at m (xp c) (iXr k)]; exact false_mem_dut _)
    () () N rfl (amount_at m c (iXs k) false) (amount_at m (xp c) (iXr k) false) (OY c 0 + OX c (k.val + 1)) (show OY c 0 + OX c k.val = OY c 0 + OX c (k.val + 1) + tallyAt (kcell (xp c, iXr k)) () N by rw [OX_step, add_assoc]) (W := W)
    (by rw [show (Rd m).payload ((c : Thread nD τ), .dma (cS 0 k)) 0 false = pay m c (iXs k) false from payload_at m c (iXs k) false]; exact BI.Entails.refl _)
    (by
      rw [show (Rd m).payload ((xp c : Thread nD τ), .dma (cS 1 k)) 0 false = pay m (xp c) (iXr k) false from payload_at m (xp c) (iXr k) false]
      show _ ⊢ ((xC k).view.loc (xp c : Thread nD τ) ↦[(xC k).view.set]{fullShare} pAt m (xp (xp c)) : sProp 𝕄)
      rw [xp_xp]
      exact Entails.of_eq (pointsTo_congr fun i hi => write_xC k f (pAt m c) i hi)))
    $$ [HtS HtR Hp Hx HO]
  · isplitr; · iexact HIs
    isplitr; · iexact HIr
    isplitl [Hp]; · iexact Hp
    isplitl [Hx]; · iexact Hx
    isplitl [HO]; · iexact HO
    isplitl [HtS]; · iexact HtS
    isplitr; · iexact Hrs
    isplitl [HtR]; · iexact HtR
    iexact Hrr
  iintro ⟨Hc, HO⟩
  iapply Hk
  isplitl [Hc]; · iexact Hc
  isplitr; · iexact He
  iexact HO

/-! ## A chunk's work -/

/-- What chunk `k`'s work needs: the receive cell's credit and position, its own rows of the result, the two duties of the send
    along y, the partner's rows to write; -/
def cPre (c : Dev nD) (f g : Full F) (k : Fin 8) : sProp 𝕄 :=
  iprop(cred (tallyAt (kcell (c, iXr k)) () N) ∗ atPos ER (kcell (c, iXr k)) 0 ∅ 0
    ∗ ((oC c k).view.loc (c : Thread nD τ) ↦[(oC c k).view.set]{fullShare} f)
    ∗ dutyTok ER (kcell (c, iYs k)) 0 false ∗ dutyTok ER (kcell (yp c, iYr k)) 0 false
    ∗ (oC c k).view.loc (yp c : Thread nD τ) ↦[(oC c k).view.set]{fullShare} g)
/-- it leaves the partner's chunk landed, the receive cell closed, the send cell's credit; -/
def cPost (c : Dev nD) (k : Fin 8) : sProp 𝕄 :=
  iprop(((xC k).view.loc (c : Thread nD τ) ↦[(xC k).view.set]{fullShare} pAt m (xp c)) ∗ semVal (kcell (c, iXr k)) 0 ∗ cred (tallyAt (kcell (c, iYs k)) () N))
/-- reading the partial sum, the residual and the scale, which stay, and paying the partner's receive cell. -/
def cR (c : Dev nD) (j : ℕ) : sProp 𝕄 :=
  iprop(env m K ∗ (∃ W, owes (c : Thread nD τ) (OY c j) W) ∗ (((c : Thread nD τ).loc cc0_scratch0) ↦{qL} pAt m c)
    ∗ (((c : Thread nD τ).loc cc0_scratch1) ↦{fullShare} rAt m c) ∗ ((c : Thread nD τ).loc cc0_stg0_0) ↦{fullShare} gAt m c)

theorem setOn_xM (k : Fin 8) : (xM).view.setOn (rk k).toLoadRect.set ⊆ (xC k).view.set := by
  rw [View.set_slice]; exact Finset.Subset.refl _
theorem setOn_oM (c : Dev nD) (k : Fin 8) : (oM).view.setOn (ok3 c k).toLoadRect.set ⊆ (oC c k).view.set := by
  rw [← oA_set, View.set_slice]; exact Finset.Subset.refl _
theorem setOn_oA (c : Dev nD) (k : Fin 8) : (oM.access (ok3 c k)).setOn Finset.univ ⊆ (oC c k).view.set := by
  rw [← oA_set]; exact Finset.Subset.refl _

set_option maxHeartbeats 1600000 in
theorem chunk_step (c : Dev nD) (f g : Full F) (Q : PUnit → sProp 𝕄) (k : Fin 8) (p : PT F) :
    iprop(cPre c f g k ∗ cR m K c k.val ∗ (cPost m c k ∗ cR m K c (k.val + 1) -∗ Wp c Q p)) ⊢ Wp c Q (chunkOp c k (yp c) p) := by
  unfold cPre cPost cR chunkOp ysendOp
  iintro ⟨⟨Hc, Hat, Ho, HtS, HtR, Hy⟩, ⟨#He, ⟨%W, HO⟩, Hp, Hr, Hg⟩, Hk⟩
  -- the wait for the partner's chunk
  iapply (wait_take m K c (iXr k) (fun h => by cases h) (cS 1 k) rfl (src := pC k) (dst := xC k) rfl (above_OY (n := 2) (by decide) c k.val) (le_refl 2) W Q) $$ [Hc HO Hat]
  · isplitr; · iexact He
    isplitl [Hc]; · iexact Hc
    isplitl [HO]; · iexact HO
    iexact Hat
  iintro ⟨⟨%W', HO⟩, Hz, Hx⟩
  ihave Hx := (show pay m c (iXr k) false ⊢ ((xC k).view.loc (c : Thread nD τ) ↦[(xC k).view.set]{fullShare} pAt m (xp c) : sProp 𝕄) from BI.Entails.refl _) $$ Hx
  -- the loads and the store
  iapply (wp_load 𝒱₀ (c : Thread nD τ) none Set.univ (m := pM) (Finset.subset_univ _)) $$ Hp; iintro Hp
  iapply (wp_load 𝒱₀ (c : Thread nD τ) none Set.univ (m := xM) (setOn_xM k)) $$ Hx; iintro Hx
  iapply (wp_load 𝒱₀ (c : Thread nD τ) none Set.univ (m := rM) (Finset.subset_univ _)) $$ Hr; iintro Hr
  iapply (wp_load 𝒱₀ (c : Thread nD τ) none Set.univ (m := gM) (Finset.subset_univ _)) $$ Hg; iintro Hg
  iapply (wp_load 𝒱₀ (c : Thread nD τ) none Set.univ (m := oM) (setOn_oM c k)) $$ Ho; iintro Ho
  iapply (wp_store 𝒱₀ (c : Thread nD τ) none Set.univ (m := oM) (r := ok3 c k) (Mk := Finset.univ) (setOn_oA c k)) $$ Ho; iintro Ho
  ihave Ho := (Entails.of_eq (pointsTo_congr fun i hi => write_oA m c k f i hi)) $$ Ho
  -- the send along y
  ihave #HIs := (env_inv m K (c, iYs k)) $$ He
  ihave #HIr := (env_inv m K (yp c, iYr k)) $$ He
  ihave #Hrs := (env_reached m K (c, iYs k)) $$ He
  ihave #Hrr := (env_reached m K (yp c, iYr k)) $$ He
  iapply (Rounds.wp_send_pointsTo 𝒱₀ ER (Rd m) (c : Thread nD τ) none (c' := (yp c : Thread nD τ)) (src := oC c k) (dst := oC c k) (sS := .dma (cS 2 k)) (sem := .dma (cS 3 k))
    (κ₁ := K (c, iYs k)) (κ₂ := K (yp c, iYr k))
    (r₁ := 0) (r₂ := 0) (d₁ := false) (d₂ := false) (fd := g)
    (by rw [show (Rd m).duties ((c : Thread nD τ), .dma (cS 2 k)) 0 = dut (iYs k) from duties_at m c (iYs k)]; exact false_mem_dut _)
    (by rw [show (Rd m).duties ((yp c : Thread nD τ), .dma (cS 3 k)) 0 = dut (iYr k) from duties_at m (yp c) (iYr k)]; exact false_mem_dut _)
    () () N rfl (amount_at m c (iYs k) false) (amount_at m (yp c) (iYr k) false) (OY c (k.val + 1)) (OY_step c k) (W := W')
    (by rw [show (Rd m).payload ((c : Thread nD τ), .dma (cS 2 k)) 0 false = pay m c (iYs k) false from payload_at m c (iYs k) false]; exact BI.Entails.refl _)
    (by
      rw [show (Rd m).payload ((yp c : Thread nD τ), .dma (cS 3 k)) 0 false = pay m (yp c) (iYr k) false from payload_at m (yp c) (iYr k) false]
      show _ ⊢ ((oC (yp (yp c)) k).view.loc (yp c : Thread nD τ) ↦[(oC (yp (yp c)) k).view.set]{fullShare} outAt m (yp c) : sProp 𝕄)
      rw [yp_yp, outAt_yp]
      exact Entails.of_eq (pointsTo_congr fun i hi => write_oC c k g (outAt m c) i hi)))
    $$ [HtS HtR Ho Hy HO]
  · isplitr; · iexact HIs
    isplitr; · iexact HIr
    isplitl [Ho]; · iexact Ho
    isplitl [Hy]; · iexact Hy
    isplitl [HO]; · iexact HO
    isplitl [HtS]; · iexact HtS
    isplitr; · iexact Hrs
    isplitl [HtR]; · iexact HtR
    iexact Hrr
  iintro ⟨Hc, HO⟩
  iapply Hk
  isplitl [Hx Hz Hc]
  · isplitl [Hx]; · iexact Hx
    isplitl [Hz]; · iexact Hz
    iexact Hc
  isplitr; · iexact He
  isplitl [HO]; · iexists W'; iexact HO
  isplitl [Hp]; · iexact Hp
  isplitl [Hr]; · iexact Hr
  iexact Hg

/-! ## A chunk's closing waits -/

/-- The credits and positions of the three cells a chunk closes with; -/
def dPre (c : Dev nD) (k : Fin 8) : sProp 𝕄 :=
  iprop((cred (tallyAt (kcell (c, iXs k)) () N) ∗ atPos ER (kcell (c, iXs k)) 0 ∅ 0)
    ∗ (cred (tallyAt (kcell (c, iYs k)) () N) ∗ atPos ER (kcell (c, iYs k)) 0 ∅ 0)
    ∗ cred (tallyAt (kcell (c, iYr k)) () N) ∗ atPos ER (kcell (c, iYr k)) 0 ∅ 0)
/-- what they carried, and the cells closed. -/
def dPost (c : Dev nD) (k : Fin 8) : sProp 𝕄 :=
  iprop((semVal (kcell (c, iXs k)) 0 ∗ pay m c (iXs k) false) ∗ (semVal (kcell (c, iYs k)) 0 ∗ pay m c (iYs k) false)
    ∗ semVal (kcell (c, iYr k)) 0 ∗ pay m c (iYr k) false)
def dR (c : Dev nD) : sProp 𝕄 := iprop(env m K ∗ ∃ W, owes (c : Thread nD τ) 0 W)

theorem done_step (c : Dev nD) (Q : PUnit → sProp 𝕄) (k : Fin 8) (p : PT F) :
    iprop(dPre c k ∗ dR m K c ∗ (dPost m c k ∗ dR m K c -∗ Wp c Q p)) ⊢ Wp c Q (doneOp c k p) := by
  unfold dPre dPost dR doneOp
  iintro ⟨⟨⟨HcA, HaA⟩, ⟨HcB, HaB⟩, HcC, HaC⟩, ⟨#He, ⟨%W, HO⟩⟩, Hk⟩
  iapply (wait_take m K c (iXs k) (fun h => by cases h) (cS 0 k) rfl (src := xC k) (dst := pC k) rfl (above_zero 3) (Nat.zero_le 3) W Q) $$ [HcA HO HaA]
  · isplitr; · iexact He
    isplitl [HcA]; · iexact HcA
    isplitl [HO]; · iexact HO
    iexact HaA
  iintro ⟨⟨%W1, HO⟩, HzA, HpA⟩
  iapply (wait_take m K c (iYs k) (fun h => by cases h) (cS 2 k) rfl (src := oC c k) (dst := oC c k) rfl (above_zero 3) (Nat.zero_le 3) W1 Q) $$ [HcB HO HaB]
  · isplitr; · iexact He
    isplitl [HcB]; · iexact HcB
    isplitl [HO]; · iexact HO
    iexact HaB
  iintro ⟨⟨%W2, HO⟩, HzB, HpB⟩
  iapply (wait_take m K c (iYr k) (fun h => by cases h) (cS 3 k) rfl (src := oC c k) (dst := oC c k) rfl (above_zero 3) (le_refl 3) W2 Q) $$ [HcC HO HaC]
  · isplitr; · iexact He
    isplitl [HcC]; · iexact HcC
    isplitl [HO]; · iexact HO
    iexact HaC
  iintro ⟨HO, HzC, HpC⟩
  iapply Hk
  isplitr [HO]
  · isplitl [HzA HpA]; · isplitl [HzA] <;> iassumption
    isplitl [HzB HpB]; · isplitl [HzB] <;> iassumption
    isplitl [HzC] <;> iassumption
  isplitr; · iexact He
  iexact HO

end Cert.Proof.Run
-- ==== Proof.Body.lean ====
/-
  The body at a symbolic device, executed once from what the launch deals it to what it leaves.
-/
module

public import proofs.«01_k».proof.Proof.Steps

@[expose] public section

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and leaves -/

/-- The cells of a device, one family after the other. -/
theorem ci_bigSep (Φ : CI → sProp 𝕄) : bigSep Finset.univ Φ
    = iprop((Φ iBar ∗ Φ iP ∗ Φ iR) ∗ (bigSep Finset.univ fun k => Φ (iXs k)) ∗ (bigSep Finset.univ fun k => Φ (iXr k))
        ∗ (bigSep Finset.univ fun k => Φ (iYs k)) ∗ bigSep Finset.univ fun k => Φ (iYr k)) := by
  rw [bigSep_univ_sum, bigSep_univ_prod, bigSep_univ_eq_bigSepL [(0 : Fin 3), 1, 2] (by decide) (by decide),
    bigSep_univ_eq_bigSepL [(0 : Fin 4), 1, 2, 3] (by decide) (by decide)]
  rfl

/-- The device whose cell `i` device `c` pays into (with the duty `false`). -/
def peer : CI → Dev nD → Dev nD
  | .inl 0 => yp
  | .inr (1, _) => xp
  | .inr (3, _) => yp
  | _ => id

/-- The duties device `c` pays, and its positions, every cell at round 0. -/
def payToks (c : Dev nD) : sProp 𝕄 :=
  iprop(dutyTok ER (kcell (xp c, iBar)) 0 true ∗ bigSep Finset.univ fun i : CI => dutyTok ER (kcell (peer i c, i)) 0 false)
def positions (c : Dev nD) : sProp 𝕄 := bigSep Finset.univ fun i : CI => atPos ER (kcell (c, i)) 0 ∅ 0
def ghost (K : Dev nD × CI → ℕ) (c : Dev nD) : sProp 𝕄 := iprop(records m K ∗ payToks c ∗ positions c)

/-- The credit other devices owe `c`'s cells. -/
def creds (c : Dev nD) : sProp 𝕄 :=
  iprop(cred (tallyAt (kcell (c, iBar)) () 2) ∗ (bigSep Finset.univ fun k => cred (tallyAt (kcell (c, iXr k)) () N))
    ∗ bigSep Finset.univ fun k => cred (tallyAt (kcell (c, iYr k)) () N))

/-- The two arrays the kernel copies from by hand, as launched. -/
def arrays (c : Dev nD) : sProp 𝕄 :=
  iprop((((c : Thread nD τ).loc main_arg0) ↦{fullShare} m ((c : Thread nD τ).loc main_arg0))
    ∗ ((c : Thread nD τ).loc main_arg1) ↦{fullShare} m ((c : Thread nD τ).loc main_arg1))

def start (c : Dev nD) : sProp 𝕄 := iprop((∃ K, ghost m K c) ∗ creds c ∗ levAts L lv ∗ arrays m c)

/-- The scratch buffers, whole, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)

def Φ₀ (c : Dev nD) : sProp 𝕄 := iprop(start m c ∗ scratch c)
/-- After the body: every cell closed at zero, the arrays as launched, the scratch buffers back. -/
def Φ₁ (c : Dev nD) : sProp 𝕄 := iprop((bigSep Finset.univ fun i : CI => semVal (kcell (c, i)) 0) ∗ arrays m c ∗ scratch c)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => gAt m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The opening steps -/

variable (K : Dev nD × CI → ℕ)

/-- The copy of the device's half of the partial sum into scratch. -/
theorem pcopy_step (c : Dev nD) (f : Half F) (Q : PUnit → sProp 𝕄) (k : PUnit → PT F) :
    iprop(env m K ∗ dutyTok ER (kcell (c, iP)) 0 false
        ∗ ((aH c).view.loc (c : Thread nD τ) ↦[(aH c).view.set]{fullShare} m ((c : Thread nD τ).loc main_arg0))
        ∗ ((c : Thread nD τ).loc cc0_scratch0) ↦{fullShare} f)
      ⊢ iprop((cred (tallyAt (kcell (c, iP)) () NP) -∗ Wp c Q (k ⟨⟩)) -∗ Wp c Q (.op (.enqueueDma (aH c) (.here pM) (.dma pS) ((View.wordExact_bits rfl).reshape _ _) (Memref.isWhole_whole _).wordExact ⟨Or.inl rfl, trivial⟩) k)) := by
  iintro ⟨#He, Ht, Ha, Hp⟩
  ihave #HI := (env_inv m K (c, iP)) $$ He
  ihave #Hr := (env_reached m K (c, iP)) $$ He
  iapply (Rounds.wp_copy_pointsTo 𝒱₀ ER (Rd m) (c : Thread nD τ) none (src := aH c) (dst := pM) (sem := .dma pS) (κ := K (c, iP))
    (q := fullShare) (fs := m ((c : Thread nD τ).loc main_arg0)) (fd := f) (r := 0) (d := false)
    (by rw [show (Rd m).duties ((c : Thread nD τ), .dma pS) 0 = dut iP from duties_at m c iP]; exact false_mem_dut _) () NP rfl (amount_at m c iP false)
    (by
      rw [show (Rd m).payload ((c : Thread nD τ), .dma pS) 0 false = pay m c iP false from payload_at m c iP false]
      show _ ⊢ iprop((((c : Thread nD τ).loc cc0_scratch0) ↦{fullShare} pAt m c)
        ∗ (aH c).view.loc (c : Thread nD τ) ↦[(aH c).view.set]{fullShare} m ((c : Thread nD τ).loc main_arg0))
      refine sep_mono_left (Entails.of_eq ?_)
      rw [show (pM).view.set = Finset.univ from View.set_whole _]
      exact congrArg (fun g => (((c : Thread nD τ).loc cc0_scratch0) ↦{fullShare} g : sProp 𝕄)) (View.write_whole_univ _ _ _))) $$ [Ht Ha Hp]
  · isplitr; · iexact HI
    isplitl [Ha]; · iexact Ha
    isplitl [Hp]
    · rw [show (pM).view.set = Finset.univ from View.set_whole _]; iexact Hp
    isplitl [Ht]; · iexact Ht
    iexact Hr

/-- The copy of the device's half of the residual into scratch. -/
theorem rcopy_step (c : Dev nD) (f : Half F) (Q : PUnit → sProp 𝕄) (k : PUnit → PT F) :
    iprop(env m K ∗ dutyTok ER (kcell (c, iR)) 0 false
        ∗ ((bH c).view.loc (c : Thread nD τ) ↦[(bH c).view.set]{fullShare} m ((c : Thread nD τ).loc main_arg1))
        ∗ ((c : Thread nD τ).loc cc0_scratch1) ↦{fullShare} f)
      ⊢ iprop((cred (tallyAt (kcell (c, iR)) () NP) -∗ Wp c Q (k ⟨⟩)) -∗ Wp c Q (.op (.enqueueDma (bH c) (.here rM) (.dma rS) (View.wordExact_bits rfl) (Memref.isWhole_whole _).wordExact ⟨Or.inl rfl, trivial⟩) k)) := by
  iintro ⟨#He, Ht, Ha, Hp⟩
  ihave #HI := (env_inv m K (c, iR)) $$ He
  ihave #Hr := (env_reached m K (c, iR)) $$ He
  iapply (Rounds.wp_copy_pointsTo 𝒱₀ ER (Rd m) (c : Thread nD τ) none (src := bH c) (dst := rM) (sem := .dma rS) (κ := K (c, iR))
    (q := fullShare) (fs := m ((c : Thread nD τ).loc main_arg1)) (fd := f) (r := 0) (d := false)
    (by rw [show (Rd m).duties ((c : Thread nD τ), .dma rS) 0 = dut iR from duties_at m c iR]; exact false_mem_dut _) () NP rfl (amount_at m c iR false)
    (by
      rw [show (Rd m).payload ((c : Thread nD τ), .dma rS) 0 false = pay m c iR false from payload_at m c iR false]
      show _ ⊢ iprop((((c : Thread nD τ).loc cc0_scratch1) ↦{fullShare} rAt m c)
        ∗ (bH c).view.loc (c : Thread nD τ) ↦[(bH c).view.set]{fullShare} m ((c : Thread nD τ).loc main_arg1))
      refine sep_mono_left (Entails.of_eq ?_)
      rw [show (rM).view.set = Finset.univ from View.set_whole _]
      exact congrArg (fun g => (((c : Thread nD τ).loc cc0_scratch1) ↦{fullShare} g : sProp 𝕄)) (View.write_whole_univ _ _ _))) $$ [Ht Ha Hp]
  · isplitr; · iexact HI
    isplitl [Ha]; · iexact Ha
    isplitl [Hp]
    · rw [show (rM).view.set = Finset.univ from View.set_whole _]; iexact Hp
    isplitl [Ht]; · iexact Ht
    iexact Hr

/-- What the two signals hand over is what the partners' barriers carry. -/
theorem pay_x (c : Dev nD) (f : Half F) : (((c : Thread nD τ).loc cc0_scratch2) ↦{fullShare} f : sProp 𝕄) ⊢ pay m (xp c) iBar true := by
  show _ ⊢ iprop(∃ f : Half F, ((xp (xp c) : Thread nD τ).loc cc0_scratch2) ↦{fullShare} f)
  rw [xp_xp]
  iintro H; iexists f; iexact H
theorem pay_y (c : Dev nD) (f : Full F) : oHalf c (yp c) f ⊢ pay m (yp c) iBar false := by
  show _ ⊢ iprop(∃ f : Full F, oHalf (yp (yp c)) (yp c) f)
  rw [yp_yp]
  iintro H; iexists f; iexact H

/-- The signal to the partner along x: it hands over `c`'s receive buffer; -/
theorem signal_x (c : Dev nD) (f : Half F) (W : Waits sig Unit) (Q : PUnit → sProp 𝕄) (k : PUnit → PT F) :
    iprop(env m K ∗ dutyTok ER (kcell (xp c, iBar)) 0 true ∗ owes (c : Thread nD τ) (O₀ c) W ∗ ((c : Thread nD τ).loc cc0_scratch2) ↦{fullShare} f)
      ⊢ iprop((owes (c : Thread nD τ) (O₁ c) W -∗ Wp c Q (k ⟨⟩)) -∗ Wp c Q (.op (.semSignal (xp c : Thread nD τ) barS 1) k)) := by
  iintro ⟨#He, Ht, HO, Hx⟩
  ihave #HI := (env_inv m K (xp c, iBar)) $$ He
  ihave #Hr := (env_reached m K (xp c, iBar)) $$ He
  iapply (Rounds.wp_signal 𝒱₀ ER (Rd m) (c : Thread nD τ) none (dst := (xp c : Thread nD τ)) (κ := K (xp c, iBar)) (d := true)
    (by rw [show (Rd m).duties ((xp c : Thread nD τ), .reg barS) 0 = dut iBar from duties_at m (xp c) iBar]; exact Finset.mem_univ _)
    (amount_at m (xp c) iBar true) () (O₁ c) rfl) $$ [Ht HO Hx]
  · isplitr; · iexact HI
    isplitl [HO]; · iexact HO
    isplitl [Ht]; · iexact Ht
    isplitl [Hx]
    · rw [show (Rd m).payload ((xp c : Thread nD τ), .reg barS) 0 true = pay m (xp c) iBar true from payload_at m (xp c) iBar true]
      iapply (pay_x m c f); iexact Hx
    iexact Hr

/-- the signal to the partner along y hands over the partner's half of `c`'s result. -/
theorem signal_y (c : Dev nD) (f : Full F) (W : Waits sig Unit) (Q : PUnit → sProp 𝕄) (k : PUnit → PT F) :
    iprop(env m K ∗ dutyTok ER (kcell (yp c, iBar)) 0 false ∗ owes (c : Thread nD τ) (O₁ c) W ∗ oHalf c (yp c) f)
      ⊢ iprop((owes (c : Thread nD τ) (O₂ c) W -∗ Wp c Q (k ⟨⟩)) -∗ Wp c Q (.op (.semSignal (yp c : Thread nD τ) barS 1) k)) := by
  iintro ⟨#He, Ht, HO, Hx⟩
  ihave #HI := (env_inv m K (yp c, iBar)) $$ He
  ihave #Hr := (env_reached m K (yp c, iBar)) $$ He
  iapply (Rounds.wp_signal 𝒱₀ ER (Rd m) (c : Thread nD τ) none (dst := (yp c : Thread nD τ)) (κ := K (yp c, iBar)) (d := false)
    (by rw [show (Rd m).duties ((yp c : Thread nD τ), .reg barS) 0 = dut iBar from duties_at m (yp c) iBar]; exact Finset.mem_univ _)
    (amount_at m (yp c) iBar false) () (O₂ c) rfl) $$ [Ht HO Hx]
  · isplitr; · iexact HI
    isplitl [HO]; · iexact HO
    isplitl [Ht]; · iexact Ht
    isplitl [Hx]
    · rw [show (Rd m).payload ((yp c : Thread nD τ), .reg barS) 0 false = pay m (yp c) iBar false from payload_at m (yp c) iBar false]
      iapply (pay_y m c f); iexact Hx
    iexact Hr

/-- The barrier wait: both partners' signals arrived, the partner's receive buffer and rows are `c`'s to write, and the
    barrier's cell is closed. -/
theorem bar_step (c : Dev nD) (W : Waits sig Unit) (Q : PUnit → sProp 𝕄) (k : PUnit → PT F) :
    iprop(env m K ∗ cred (tallyAt (kcell (c, iBar)) () 2) ∗ owes (c : Thread nD τ) (O₂ c) W ∗ atPos ER (kcell (c, iBar)) 0 ∅ 0)
      ⊢ iprop((((∃ W', owes (c : Thread nD τ) (O₂ c) W') ∗ semVal (kcell (c, iBar)) 0
            ∗ (∃ g : Full F, oHalf (yp c) c g) ∗ ∃ f : Half F, ((xp c : Thread nD τ).loc cc0_scratch2) ↦{fullShare} f) -∗ Wp c Q (k ⟨⟩))
          -∗ Wp c Q (.op (.semWait barS 2) k)) := by
  iintro ⟨#He, Hc, HO, Hat⟩ Hk
  ihave #HI := (env_inv m K (c, iBar)) $$ He
  ihave #Hlev := (env_lev m K) $$ He
  iapply (Rounds.wp_wait_rest_token 𝒱₀ ER (Rd m) (c : Thread nD τ) none (sm := .reg barS) (k' := 2) (κ := K (c, iBar))
      (wpE_semWait_eq 𝒱₀ (c : Thread nD τ) none Set.univ) (Set.mem_univ _) () (O := O₂ c) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr; · iapply (mayWait (F := F) (above_O₂ c) c (.reg barS) (le_of_eq (lv_at c iBar))); iexact Hlev
    iexact Hat
  iintro ⟨HO, Hat, -, Hpay⟩
  ihave Hpay := (show bigSep ((Rd m).duties ((c : Thread nD τ), .reg barS) 0 \ ∅) (fun d => (Rd m).payload ((c : Thread nD τ), .reg barS) 0 d)
      ⊢ iprop(pay m c iBar false ∗ pay m c iBar true) from Entails.of_eq (rest_bar m c)) $$ Hpay
  icases Hpay with ⟨Hy, Hx⟩
  imod (Rounds.cell_close ER (Rd m) (Set.mem_univ (K (c, iBar))) (fun h => h) (R := 0 + 1) (duties_later m (kcell (c, iBar)))) $$ [Hat] with Hz
  · isplitr; · iexact HI
    iexact Hat
  iapply Hk
  isplitl [HO]; · iexists _; iexact HO
  isplitl [Hz]; · iexact Hz
  isplitl [Hy]
  · iapply (show pay m c iBar false ⊢ iprop(∃ g : Full F, oHalf (yp c) c g) from BI.Entails.refl _); iexact Hy
  iapply (show pay m c iBar true ⊢ iprop(∃ f : Half F, ((xp c : Thread nD τ).loc cc0_scratch2) ↦{fullShare} f) from BI.Entails.refl _); iexact Hx

/-! ## Gathering the loops' premises -/

theorem xPre_all (c : Dev nD) (f : Half F) : bigSep Finset.univ (xPre m c f)
    = iprop((bigSep Finset.univ fun k => dutyTok ER (kcell (c, iXs k)) 0 false) ∗ (bigSep Finset.univ fun k => dutyTok ER (kcell (xp c, iXr k)) 0 false)
      ∗ (((c : Thread nD τ).loc cc0_scratch0) ↦{qR} pAt m c) ∗ ((xp c : Thread nD τ).loc cc0_scratch2) ↦{fullShare} f) := by
  rw [pSplit, xSplit, ← bigSep_sep', ← bigSep_sep', ← bigSep_sep']; rfl

theorem cPre_all (c : Dev nD) (f g : Full F) : bigSep Finset.univ (cPre c f g)
    = iprop((bigSep Finset.univ fun k => cred (tallyAt (kcell (c, iXr k)) () N)) ∗ (bigSep Finset.univ fun k => atPos ER (kcell (c, iXr k)) 0 ∅ 0)
      ∗ oHalf c c f ∗ (bigSep Finset.univ fun k => dutyTok ER (kcell (c, iYs k)) 0 false)
      ∗ (bigSep Finset.univ fun k => dutyTok ER (kcell (yp c, iYr k)) 0 false) ∗ oHalf (yp c) c g) := by
  unfold oHalf
  rw [← bigSep_sep', ← bigSep_sep', ← bigSep_sep', ← bigSep_sep', ← bigSep_sep']; rfl

theorem cPost_all (c : Dev nD) : bigSep Finset.univ (cPost m c)
    = iprop((((c : Thread nD τ).loc cc0_scratch2) ↦{fullShare} pAt m (xp c)) ∗ (bigSep Finset.univ fun k => semVal (kcell (c, iXr k)) 0)
      ∗ bigSep Finset.univ fun k => cred (tallyAt (kcell (c, iYs k)) () N)) := by
  rw [show (((c : Thread nD τ).loc cc0_scratch2) ↦{fullShare} pAt m (xp c) : sProp 𝕄) = _ from xSplit c fullShare (pAt m (xp c)), ← bigSep_sep', ← bigSep_sep']; rfl

theorem dPre_all (c : Dev nD) : bigSep Finset.univ (dPre (F := F) c)
    = iprop(((bigSep Finset.univ fun k => cred (tallyAt (kcell (c, iXs k)) () N)) ∗ bigSep Finset.univ fun k => atPos ER (kcell (c, iXs k)) 0 ∅ 0)
      ∗ ((bigSep Finset.univ fun k => cred (tallyAt (kcell (c, iYs k)) () N)) ∗ bigSep Finset.univ fun k => atPos ER (kcell (c, iYs k)) 0 ∅ 0)
      ∗ (bigSep Finset.univ fun k => cred (tallyAt (kcell (c, iYr k)) () N)) ∗ bigSep Finset.univ fun k => atPos ER (kcell (c, iYr k)) 0 ∅ 0) := by
  rw [← bigSep_sep', ← bigSep_sep', ← bigSep_sep', ← bigSep_sep', ← bigSep_sep']; rfl

theorem dPost_all (c : Dev nD) : bigSep Finset.univ (dPost m c)
    = iprop(((bigSep Finset.univ fun k => semVal (kcell (c, iXs k)) 0) ∗ ((c : Thread nD τ).loc cc0_scratch0) ↦{qR} pAt m c)
      ∗ ((bigSep Finset.univ fun k => semVal (kcell (c, iYs k)) 0) ∗ oHalf c c (outAt m c))
      ∗ (bigSep Finset.univ fun k => semVal (kcell (c, iYr k)) 0) ∗ oHalf c (yp c) (outAt m c)) := by
  unfold oHalf
  rw [pSplit, ← bigSep_sep', ← bigSep_sep', ← bigSep_sep', ← bigSep_sep', ← bigSep_sep']; rfl

/-! ## The body -/

/-- What the body runs from: the ghost state, the credits, the arrays, the scratch buffers, what it owes, and the staged
    buffers, the scale filled. -/
def bodyIn (c : Dev nD) : sProp 𝕄 :=
  iprop(ghost m K c ∗ creds c ∗ levAts L lv ∗ arrays m c ∗ scratch c ∗ (∃ W, owes (c : Thread nD τ) (O₀ c) W)
    ∗ (((c : Thread nD τ).loc cc0_stg0_0) ↦{fullShare} gAt m c) ∗ ∃ f : Full F, ((c : Thread nD τ).loc cc0_stg1_0) ↦{fullShare} f)
/-- What it leaves: every cell closed, the arrays and the scale as they were, nothing owed, the result. -/
def bodyOut (c : Dev nD) : sProp 𝕄 :=
  iprop(Φ₁ m c ∗ (∃ W, owes (c : Thread nD τ) 0 W) ∗ (((c : Thread nD τ).loc cc0_stg0_0) ↦{fullShare} gAt m c)
    ∗ ((c : Thread nD τ).loc cc0_stg1_0) ↦{fullShare} outAt m c)

set_option maxHeartbeats 4000000 in
/-- The body's text, executed in program order. -/
theorem text_wp (c : Dev nD) (Q : PUnit → sProp 𝕄) :
    iprop(bodyIn m K c ∗ (bodyOut m c -∗ Q ⟨⟩)) ⊢ Wp c Q (text c (xp c) (yp c) (fun _ => xp c) (fun _ => yp c)) := by
  unfold bodyIn ghost payToks positions creds arrays scratch text
  rw [ci_bigSep, ci_bigSep]
  iintro ⟨⟨⟨#Hrec, ⟨HtBx, ⟨HtBy, HtP, HtR⟩, HtXs, HtXr, HtYs, HtYr⟩, ⟨HaB, HaP, HaR⟩, HaXs, HaXr, HaYs, HaYr⟩, ⟨HcB, HcXr, HcYr⟩, #Hlev, ⟨HA, HB⟩,
    ⟨⟨%f0, Hp⟩, ⟨%f1, Hr⟩, ⟨%f2, Hx⟩⟩, ⟨%W, HO⟩, Hg, ⟨%fo, Ho⟩⟩, Hk⟩
  ihave #He := (show iprop(records m K ∗ levAts L lv) ⊢ env m K from by unfold env; exact BI.Entails.refl _) $$ [Hrec Hlev]
  · isplitr; · iexact Hrec
    iexact Hlev
  -- the two local copies, each from the rows of its array
  ihave HA := (pointsTo_split_subset (Finset.subset_univ ((aH c).view.set))).1 $$ HA
  icases HA with ⟨HA, HA'⟩
  ihave HB := (pointsTo_split_subset (Finset.subset_univ ((bH c).view.set))).1 $$ HB
  icases HB with ⟨HB, HB'⟩
  iapply (pcopy_step m K c f0 Q) $$ [HtP HA Hp]
  · isplitr; · iexact He
    isplitl [HtP]; · iexact HtP
    isplitl [HA]; · iexact HA
    iexact Hp
  iintro HcP
  iapply (rcopy_step m K c f1 Q) $$ [HtR HB Hr]
  · isplitr; · iexact He
    isplitl [HtR]; · iexact HtR
    isplitl [HB]; · iexact HB
    iexact Hr
  iintro HcR
  -- the handshake
  iapply (signal_x m K c f2 W Q) $$ [HtBx HO Hx]
  · isplitr; · iexact He
    isplitl [HtBx]; · iexact HtBx
    isplitl [HO]; · iexact HO
    iexact Hx
  iintro HO
  ihave Ho := (Entails.of_eq (oSplit c fo)) $$ Ho
  icases Ho with ⟨Ho, Ho'⟩
  iapply (signal_y m K c fo W Q) $$ [HtBy HO Ho']
  · isplitr; · iexact He
    isplitl [HtBy]; · iexact HtBy
    isplitl [HO]; · iexact HO
    iexact Ho'
  iintro HO
  iapply (bar_step m K c W Q) $$ [HcB HO HaB]
  · isplitr; · iexact He
    isplitl [HcB]; · iexact HcB
    isplitl [HO]; · iexact HO
    iexact HaB
  iintro ⟨⟨%W1, HO⟩, HzB, ⟨%gy, Hy⟩, ⟨%fx, Hx⟩⟩
  -- the partial sum is in scratch
  iapply (wait_take m K c iP (fun h => by cases h) pS rfl (src := aH c) (dst := pM) rfl (above_O₂ c) (Nat.zero_le 1) W1 Q) $$ [HcP HO HaP]
  · isplitr; · iexact He
    isplitl [HcP]; · iexact HcP
    isplitl [HO]; · iexact HO
    iexact HaP
  iintro ⟨⟨%W2, HO⟩, HzP, Hpay⟩
  ihave Hpay := (show pay m c iP false ⊢ iprop((((c : Thread nD τ).loc cc0_scratch0) ↦{fullShare} pAt m c)
      ∗ (aH c).view.loc (c : Thread nD τ) ↦[(aH c).view.set]{fullShare} m ((c : Thread nD τ).loc main_arg0)) from BI.Entails.refl _) $$ Hpay
  icases Hpay with ⟨Hp, HA⟩
  ihave Hp := (pointsTo_share (PosShare.mem_left_op_right fullShare)).1 $$ Hp
  icases Hp with ⟨HpL, HpR⟩
  -- the eight sends along x
  iapply (each8_wp c Q (fun k => xsendOp k (xp c)) (xPre m c fx) (xPost c) (xR m K c W2) (xsend_step m K c fx W2 Q))
  isplitl [HtXs HtXr HpR Hx]
  · rw [xPre_all]
    isplitl [HtXs]; · iexact HtXs
    isplitl [HtXr]; · iexact HtXr
    isplitl [HpR]; · iexact HpR
    iexact Hx
  isplitl [HO]
  · unfold xR; isplitr; · iexact He
    iexact HO
  iintro ⟨HcXs, HO⟩
  unfold xR
  rw [OX_end, add_zero]
  icases HO with ⟨-, HO⟩
  -- the residual is in scratch
  iapply (wait_take m K c iR (fun h => by cases h) rS rfl (src := bH c) (dst := rM) rfl (above_OY (n := 2) (by decide) c 0) (Nat.zero_le 2) W2 Q) $$ [HcR HO HaR]
  · isplitr; · iexact He
    isplitl [HcR]; · iexact HcR
    isplitl [HO]; · iexact HO
    iexact HaR
  iintro ⟨HO, HzR, Hpay⟩
  ihave Hpay := (show pay m c iR false ⊢ iprop((((c : Thread nD τ).loc cc0_scratch1) ↦{fullShare} rAt m c)
      ∗ (bH c).view.loc (c : Thread nD τ) ↦[(bH c).view.set]{fullShare} m ((c : Thread nD τ).loc main_arg1)) from BI.Entails.refl _) $$ Hpay
  icases Hpay with ⟨Hr, HB⟩
  -- the eight chunks
  iapply (each8_wp c Q (fun k => chunkOp c k (yp c)) (cPre c fo gy) (cPost m c) (cR m K c) (chunk_step m K c fo gy Q))
  isplitl [HcXr HaXr Ho HtYs HtYr Hy]
  · rw [cPre_all]
    isplitl [HcXr]; · iexact HcXr
    isplitl [HaXr]; · iexact HaXr
    isplitl [Ho]; · iexact Ho
    isplitl [HtYs]; · iexact HtYs
    isplitl [HtYr]; · iexact HtYr
    iexact Hy
  isplitl [HO HpL Hr Hg]
  · unfold cR
    isplitr; · iexact He
    isplitl [HO]; · iexact HO
    isplitl [HpL]; · iexact HpL
    isplitl [Hr]; · iexact Hr
    iexact Hg
  rw [cPost_all]
  unfold cR
  rw [OY_end]
  iintro ⟨⟨Hx, HzXr, HcYs⟩, -, HO, HpL, Hr, Hg⟩
  -- the closing waits
  iapply (each8_wp c Q (fun k => doneOp c k) (dPre c) (dPost m c) (fun _ => dR m K c) (done_step m K c Q))
  isplitl [HcXs HaXs HcYs HaYs HcYr HaYr]
  · rw [dPre_all]
    isplitl [HcXs HaXs]; · isplitl [HcXs]; · iexact HcXs
                           iexact HaXs
    isplitl [HcYs HaYs]; · isplitl [HcYs] <;> iassumption
    isplitl [HcYr] <;> iassumption
  isplitl [HO]
  · unfold dR; isplitr; · iexact He
    iexact HO
  rw [dPost_all]
  unfold dR
  iintro ⟨⟨⟨HzXs, HpR⟩, ⟨HzYs, Ho⟩, HzYr, Ho'⟩, -, HO⟩
  unfold Wp
  rw [wp_ret]; imodintro
  iapply Hk
  unfold bodyOut Φ₁ arrays scratch
  rw [ci_bigSep]
  isplitr [HO Hg Ho Ho']
  · isplitl [HzB HzP HzR HzXs HzXr HzYs HzYr]
    · isplitl [HzB HzP HzR]
      · isplitl [HzB]; · iexact HzB
        isplitl [HzP] <;> iassumption
      isplitl [HzXs]; · iexact HzXs
      isplitl [HzXr]; · iexact HzXr
      isplitl [HzYs] <;> iassumption
    isplitl [HA HA' HB HB']
    · isplitl [HA HA']
      · iapply (pointsTo_split_subset (Finset.subset_univ ((aH c).view.set))).2
        isplitl [HA] <;> iassumption
      · iapply (pointsTo_split_subset (Finset.subset_univ ((bH c).view.set))).2
        isplitl [HB] <;> iassumption
    isplitl [HpL HpR]
    · iexists (pAt m c)
      iapply (pointsTo_share (PosShare.mem_left_op_right fullShare)).2
      isplitl [HpL] <;> iassumption
    isplitl [Hr]
    · iexists (rAt m c); iexact Hr
    iexists (pAt m (xp c)); iexact Hx
  isplitl [HO]; · iexact HO
  isplitl [Hg]; · iexact Hg
  rw [oSplit]
  isplitl [Ho] <;> iassumption

end Cert.Proof.Run
-- ==== Proof.Deal.lean ====
/-
  What the launch deals every device before its body runs: the ghost state of all cells, made once and dealt so that the duty
  tokens reach the device that pays them, and the credit that the other devices owe.
-/
module

public import proofs.«01_k».proof.Proof.Body

@[expose] public section

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost element -/

/-- The kernel's own semaphores: every cell's but the barrier's. -/
def osem : Fin 2 ⊕ (Fin 4 × Fin 8) → SemLoc sig
  | .inl 0 => csem iP
  | .inl 1 => csem iR
  | .inr jk => csem (.inr jk)

theorem ownSemFacts : Pipeline.OwnSemFacts cfg0.spec osem := by decide

def allCells : Finset (GSem nD τ sig) := Finset.univ.map ⟨kcell, kcell_injective⟩

/-- The duty tokens of a device's own cells: `false` on every cell, and the barrier's `true`. -/
abbrev tokOf (ct : Dev nD × (Unit ⊕ CI)) : GSem nD τ sig × ℕ × Bool := match ct.2 with
  | .inl _ => (kcell (ct.1, iBar), 0, true)
  | .inr i => (kcell (ct.1, i), 0, false)
theorem tokOf_injective : Function.Injective tokOf := by
  rintro ⟨c, t⟩ ⟨c', t'⟩ h
  rcases t with t | i <;> rcases t' with t' | i'
  · have h1 := kcell_injective (congrArg Prod.fst h)
    rw [show c = c' from congrArg Prod.fst h1]
  · exact absurd (congrArg (fun x : GSem nD τ sig × ℕ × Bool => x.2.2) h) (fun h' => by cases h')
  · exact absurd (congrArg (fun x : GSem nD τ sig × ℕ × Bool => x.2.2) h) (fun h' => by cases h')
  · have h1 := kcell_injective (congrArg Prod.fst h)
    rw [show c = c' from congrArg Prod.fst h1, show i = i' from congrArg Prod.snd h1]
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

def toks (c : Dev nD) : sProp 𝕄 :=
  iprop(dutyTok ER (kcell (c, iBar)) 0 true ∗ bigSep Finset.univ fun i : CI => dutyTok ER (kcell (c, i)) 0 false)

/-- What the element deals a device at first: its own cells' state, and the tokens of its own cells; -/
def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks c)
/-- what the global step makes of it: the body's ghost state. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_sum]
    refine congrArg₂ BIBase.sep ?_ rfl
    exact bigSep_univ_eq_bigSepL [()] (by decide) (by decide) _
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores of a device are its cells -/

theorem unscopedSems0_eq (c : Dev nD) : (unscopedSems0 c : sProp 𝕄) = semVal (kcell (c, iBar)) 0 := by
  unfold unscopedSems0; rw [bigSep_eq_bigSepL_of_eq [SemLoc.reg barS] (by decide) (by decide)]; rfl

theorem ownSems0_eq (c : Dev nD) :
    (Pipeline.ownSems0 (Ix := Unit) (Name := ℕ) (U := UU) (Lvl := ℕ) (Val := Elt F) (τ := τ) osem c : sProp 𝕄)
      = iprop((semVal (kcell (c, iP)) 0 ∗ semVal (kcell (c, iR)) 0) ∗ (bigSep Finset.univ fun k => semVal (kcell (c, iXs k)) 0)
        ∗ (bigSep Finset.univ fun k => semVal (kcell (c, iXr k)) 0) ∗ (bigSep Finset.univ fun k => semVal (kcell (c, iYs k)) 0)
        ∗ bigSep Finset.univ fun k => semVal (kcell (c, iYr k)) 0) := by
  unfold Pipeline.ownSems0
  rw [bigSep_univ_sum, bigSep_univ_prod, bigSep_univ_eq_bigSepL [(0 : Fin 2), 1] (by decide) (by decide),
    bigSep_univ_eq_bigSepL [(0 : Fin 4), 1, 2, 3] (by decide) (by decide)]
  rfl

theorem sems0_in (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [unscopedSems0_eq, ci_bigSep, ownSems0_eq]
  iintro ⟨⟨⟨HP, HR⟩, H⟩, HB⟩
  isplitl [HP HR HB]
  · isplitl [HB]; · iexact HB
    isplitl [HP]; · iexact HP
    iexact HR
  iexact H

theorem sems0_out (c : Dev nD) :
    (bigSep Finset.univ fun i : CI => semVal (kcell (c, i)) 0 : sProp 𝕄)
      ⊢ iprop(Pipeline.ownSems0 (Ix := Unit) (Name := ℕ) (U := UU) (Lvl := ℕ) (Val := Elt F) (τ := τ) osem c ∗ unscopedSems0 c) := by
  rw [unscopedSems0_eq, ci_bigSep, ownSems0_eq]
  iintro ⟨⟨HB, HP, HR⟩, H⟩
  isplitr [HB]
  · isplitl [HP HR]
    · isplitl [HP]; · iexact HP
      iexact HR
    iexact H
  iexact HB

/-! ## The global step: invariants, and the tokens to their payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (Rd m) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_in (F := F) c) $$ [Hos Hus]
  · isplitl [Hos] <;> iassumption
  imod (show iprop((bigSep Finset.univ fun i : CI => semVal (kcell (c, i)) 0) ∗ bigSep Finset.univ fun i : CI => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- A partner map is its own inverse. -/
theorem peer_peer (i : CI) (c : Dev nD) : peer i (peer i c) = c := by revert i c; decide
def xpE : Dev nD ≃ Dev nD := ⟨xp, xp, xp_xp, xp_xp⟩
def peerE (i : CI) : Dev nD ≃ Dev nD := ⟨peer i, peer i, peer_peer i, peer_peer i⟩

/-- Every token goes to the device that pays the duty. -/
theorem toks_around : (bigSep Finset.univ fun c : Dev nD => (toks c : sProp 𝕄)) = bigSep Finset.univ fun c : Dev nD => payToks c := by
  unfold toks payToks
  rw [bigSep_sep', bigSep_sep', bigSep_univ_equiv xpE (fun c : Dev nD => (dutyTok ER (kcell (c, iBar)) 0 true : sProp 𝕄)),
    bigSep_univ_comm (fun (c : Dev nD) (i : CI) => (dutyTok ER (kcell (c, i)) 0 false : sProp 𝕄)),
    bigSep_univ_comm (fun (c : Dev nD) (i : CI) => (dutyTok ER (kcell (peer i c, i)) 0 false : sProp 𝕄)),
    bigSep_congr fun i _ => bigSep_univ_equiv (peerE i) (fun c : Dev nD => (dutyTok ER (kcell (c, i)) 0 false : sProp 𝕄))]
  rfl

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records m K ∗ payToks c ∗ positions c) ⊢ G' m c := by
  unfold G' ghost
  iintro H
  iexists K
  iexact H

theorem regroup :
    (bigSep Finset.univ fun c : Dev nD => iprop((bigSep Finset.univ fun i => iprop(∃ κ : ℕ, cellInv ER (Rd m) κ (kcell (c, i))))
          ∗ (bigSep Finset.univ fun i => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ci : Dev nD × CI => iprop(∃ κ : ℕ, cellInv ER (Rd m) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄)), toks_around]
  iintro ⟨HI, ⟨Hat, #HR⟩, Htok⟩
  ihave HK := (BI.bigSep_exists_pi Finset.univ (fun (ci : Dev nD × CI) (κ : ℕ) => (cellInv ER (Rd m) κ (kcell ci) : sProp 𝕄))) $$ HI
  icases HK with ⟨%K, #HI⟩
  iapply (bigSep_beside (R := records m K) fun c _ => ghost_intro m K c)
  isplitr
  · unfold records; isplitl; · iexact HI
    iexact HR
  · rw [bigSep_sep']
    isplitl [Htok]; · iexact Htok
    iexact Hat

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem all_from_zero : Finset.univ.filter (fun k : Fin 8 => 0 ≤ k.val) = Finset.univ := by decide

theorem launch_creds (c : Dev nD) : (Pipeline.launchCred O₀ c : sProp 𝕄) ⊢ creds c := by
  have e : (O₀ : Dev nD → CellTallies nD τ sig Unit) = fun d => (((∑ k : Fin 8, tallyAt (kcell (yp d, iYr k)) () N) + ∑ k : Fin 8, tallyAt (kcell (xp d, iXr k)) () N)
      + tallyAt (kcell (yp d, iBar)) () 1) + tallyAt (kcell (xp d, iBar)) () 1 := by
    funext d; unfold O₀ O₁ O₂ OX OY; rw [all_from_zero]
  rw [e, Pipeline.launchCred_add (fun d => ((∑ k : Fin 8, tallyAt (kcell (yp d, iYr k)) () N) + ∑ k : Fin 8, tallyAt (kcell (xp d, iXr k)) () N)
      + tallyAt (kcell (yp d, iBar)) () 1) (fun d => tallyAt (kcell (xp d, iBar)) () 1),
    Pipeline.launchCred_add (fun d => (∑ k : Fin 8, tallyAt (kcell (yp d, iYr k)) () N) + ∑ k : Fin 8, tallyAt (kcell (xp d, iXr k)) () N)
      (fun d => tallyAt (kcell (yp d, iBar)) () 1),
    Pipeline.launchCred_add (fun d => ∑ k : Fin 8, tallyAt (kcell (yp d, iYr k)) () N) (fun d => ∑ k : Fin 8, tallyAt (kcell (xp d, iXr k)) () N),
    Pipeline.launchCred_sum Finset.univ (fun (k : Fin 8) d => tallyAt (kcell (yp d, iYr k)) () N),
    Pipeline.launchCred_sum Finset.univ (fun (k : Fin 8) d => tallyAt (kcell (xp d, iXr k)) () N)]
  unfold creds
  iintro ⟨⟨⟨HY, HX⟩, HBy⟩, HBx⟩
  isplitl [HBy HBx]
  · ihave H1 := (Pipeline.launchCred_tallyAt (csem iBar) yp yp yp_yp yp_yp () 1 c) $$ HBy
    ihave H2 := (Pipeline.launchCred_tallyAt (csem iBar) xp xp xp_xp xp_xp () 1 c) $$ HBx
    rw [show (tallyAt (kcell (c, iBar)) () 2 : CellTallies nD τ sig Unit) = tallyAt (kcell (c, iBar)) () 1 + tallyAt (kcell (c, iBar)) () 1 from (tallyAt_add _ _ 1 1).symm]
    iapply (cred_add _ _).2
    isplitl [H1]; · iexact H1
    iexact H2
  isplitl [HX]
  · iapply (show (bigSep Finset.univ fun k : Fin 8 => Pipeline.launchCred (fun d => tallyAt (kcell (xp d, iXr k)) () N) c : sProp 𝕄)
        ⊢ bigSep Finset.univ fun k : Fin 8 => cred (tallyAt (kcell (c, iXr k)) () N) from
      bigSep_mono fun k _ => Pipeline.launchCred_tallyAt (csem (iXr k)) xp xp xp_xp xp_xp () N c)
    iexact HX
  · iapply (show (bigSep Finset.univ fun k : Fin 8 => Pipeline.launchCred (fun d => tallyAt (kcell (yp d, iYr k)) () N) c : sProp 𝕄)
        ⊢ bigSep Finset.univ fun k : Fin 8 => cred (tallyAt (kcell (c, iYr k)) () N) from
      bigSep_mono fun k _ => Pipeline.launchCred_tallyAt (csem (iYr k)) yp yp yp_yp yp_yp () N c)
    iexact HY

end Cert.Proof.Run
-- ==== Proof.Launch.lean ====
/-
  The run of the whole program: every device's body from the launch, and what the final memory holds.
-/
module

public import proofs.«01_k».proof.Proof.Deal
public import Idealize.ShloMosaic.Lib.Pipeline.CollectiveSegs
public import Idealize.ShloMosaic.Lib.Pipeline.Value

@[expose] public section

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

/-- A staging buffer holding `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def before' (c : Dev nD) : sProp 𝕄 :=
  iprop(Φ₀ m c ∗ (dats m 0 c).owesAt () t₀.castSucc ∗ (∃ d, stg c cc0_stg0_0 ((dats m 0 c).before 0 t₀ d)) ∗ ∃ d, stg c cc0_stg1_0 ((dats m 0 c).before 1 t₀ d))
def after' (c : Dev nD) : sProp 𝕄 :=
  iprop(Φ₁ m c ∗ (dats m 0 c).owesAt () t₀.succ ∗ stg c cc0_stg0_0 (gAt m c) ∗ stg c cc0_stg1_0 (outAt m c))

theorem before_scale (c : Dev nD) (d) : (dats m 0 c).before 0 t₀ d = gAt m c := by
  unfold Dat.before; rw [if_pos (fetch0_0 t₀)]; rfl

theorem sound (c : Dev nD) : before' m c ⊢ Wp c (fun _ => after' m c) printed := by
  unfold before' after' stg Φ₀ start
  rw [printed_eq]
  unfold Wp
  rw [wp_deviceId]
  rw [show (c : Thread nD τ).1 = c from rfl, dev1_eq, dev2_eq, show xdev c = fun _ => xp c from funext (xdev_eq c), show ydev c = fun _ => yp c from funext (ydev_eq c)]
  unfold Dat.owesAt Pipeline.owesWithin
  iintro ⟨⟨⟨⟨%K, Hg⟩, Hc, Hl, Ha⟩, Hs⟩, ⟨%W, %hW, HO⟩, ⟨%d0, %f0, %h0, H0⟩, ⟨%d1, %f1, %h1, H1⟩⟩
  rw [before_scale] at h0
  subst h0
  iapply (text_wp m K c _)
  unfold bodyIn bodyOut
  isplitl
  · isplitl [Hg]; · iexact Hg
    isplitl [Hc]; · iexact Hc
    isplitl [Hl]; · iexact Hl
    isplitl [Ha]; · iexact Ha
    isplitl [Hs]; · iexact Hs
    isplitl [HO]; · iexists W; iexact HO
    isplitl [H0]; · iexact H0
    iexists f1; iexact H1
  iintro ⟨HΦ, ⟨%W', HO⟩, H0, H1⟩
  isplitl [HΦ]; · iexact HΦ
  isplitl [HO]
  · iexists W'
    isplitr; · ipureintro; exact fun _ _ => Or.inl trivial
    iexact HO
  isplitl [H0]
  · iexists _; isplitr
    · ipureintro; rfl
    iexact H0
  · iexists _; isplitr
    · ipureintro; rfl
    iexact H1

set_option maxRecDepth 65536 in
theorem body_obligation (c : Dev nD) : BodyObligation (dats (F := F) m 0 c) (defs₀ (F := F)) 𝒱₀ () Set.univ := fun t => by
  rw [fin_N t, bigSep_W0, bigSep_W0]
  simp only [owns_whole_eq]
  show before' m c ⊢ wp frame (wpE (defs₀ (F := F)) 𝒱₀ c none) Set.univ printed (fun _ => after' m c)
  exact sound m c

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = arrays m c from unscopedRest0_eq c _]
  iintro ⟨Ha, Hlev, Hcr, -, HG⟩
  ihave Hc := (launch_creds (F := F) c) $$ Hcr
  imodintro
  unfold start G'
  isplitl
  · isplitl [HG]; · iexact HG
    isplitl [Hc]; · iexact Hc
    isplitl [Hlev]; · iexact Hlev
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = scratch c from scopedRest0_eq c]
  unfold Φ₀
  iintro ⟨Hs, -, Hr⟩
  isplitl [Hs]; · iexact Hs
  iexact Hr

/-- What a device hands back beside its windows: its barrier at zero, and the two arrays. -/
def rest (c : Dev nD) : sProp 𝕄 := iprop(unscopedSems0 c ∗ arrays m c)

theorem phi1_exit (c : Dev nD) :
    (dats m 0 c).Φ (Fin.last cfg0.N) ⊢ iprop(rest m c ∗ Pipeline.ownSems0 osem c ∗ Pipeline.scopedRest cfg0.spec c) := by
  rw [show (dats m 0 c).Φ (Fin.last cfg0.N) = Φ₁ m c from rfl, show (Pipeline.scopedRest cfg0.spec c : sProp 𝕄) = scratch c from scopedRest0_eq c]
  unfold Φ₁ rest
  iintro ⟨Hz, Ha, Hs⟩
  ihave Hz := (sems0_out (F := F) c) $$ Hz
  icases Hz with ⟨Ho, Hu⟩
  isplitl [Hu Ha]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t => by
    have hl : lv ((c : Thread nD τ), _) () ≤ 0 := (show ∀ (w : Fin 2) (s : Fin ((spec0 w).nbuf)), lv ((c : Thread nD τ), .dma ((spec0 w).sem s)) () ≤ 0 from by
      intro w s; fin_cases w <;> fin_cases s <;> exact Nat.le_of_eq (by decide +revert)) w s
    rcases t with ⟨_ | _, ht⟩
    · exact mayWait (above_O₀ c) c _ hl
    · exact mayWait (above_zero 0) c _ hl

/-! ## The run -/

/-- The two arrays copied from by hand are unchanged, and the barrier reads zero. -/
def Kept (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

theorem rest_read (c : Dev nD) (s' : Phys nD τ sig (Elt F)) :
    iprop(rest m c ∗ emp ∗ SI s') ⊢ |={Set.univ}=> iprop(⌜Kept m c s'.mem⌝ ∗ SI s' : sProp 𝕄) := by
  unfold rest arrays
  iintro ⟨⟨Hu, H0, H1⟩, -, HSI⟩
  icombine HSI H0 gives %h0
  icombine HSI H1 gives %h1
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ h0, Buf.eq_of_forall_mem_univ h1⟩, hs⟩
  iexact HSI

theorem mem_block (i : S1024x1024.Idx) : i ∈ ((cfg0.win 1).blk t₀).view.set := by
  show i ∈ ((View.whole main_v1).slice (win0_1.rect t₀)).set
  rw [View.set_slice_whole, Rect.mem_set_unit]
  have h0 : (i 0 : Nat) < 1024 := (i 0).isLt
  have h1 : (i 1 : Nat) < 1024 := (i 1).isLt
  have e : win0_1.index t₀ 0 * win0_1.size 0 = 0 ∧ win0_1.xsize (grid0.coords t₀) 0 = 1024
      ∧ win0_1.index t₀ 1 * win0_1.size 1 = 0 ∧ win0_1.xsize (grid0.coords t₀) 1 = 1024 := by
    decide +kernel
  intro a
  match a with
  | ⟨0, _⟩ =>
    show win0_1.index t₀ 0 * win0_1.size 0 ≤ (i 0 : Nat) ∧ (i 0 : Nat) < win0_1.index t₀ 0 * win0_1.size 0 + win0_1.xsize (grid0.coords t₀) 0
    rw [e.1, e.2.1]; omega
  | ⟨1, _⟩ =>
    show win0_1.index t₀ 1 * win0_1.size 1 ≤ (i 1 : Nat) ∧ (i 1 : Nat) < win0_1.index t₀ 1 * win0_1.size 1 + win0_1.xsize (grid0.coords t₀) 1
    rw [e.2.2.1, e.2.2.2]; omega

theorem flushed_eq (c : Dev nD) (t : Fin cfg0.N) : (dats m 0 c).flushed 1 t = ((cfg0.win 1).blk t).view.read (Elt F) (outAt m c) := by
  rw [fin_N t]
  have ha : (dats m 0 c).after 1 t₀ = outAt m c := by dsimp only [dats]
  unfold Pipeline.Dat.flushed
  rw [ha]
  generalize outAt m c = X
  funext y
  rw [View.read_apply]
  show X _ = X _
  refine congrArg X (funext fun a => Fin.ext ?_)
  match a with
  | ⟨0, _⟩ =>
    show (y 0 : ℕ) = win0_1.index t₀ 0 * win0_1.size 0 + 1 * (y 0 : ℕ)
    rw [show win0_1.index t₀ 0 * win0_1.size 0 = 0 from by decide +kernel]; omega
  | ⟨1, _⟩ =>
    show (y 1 : ℕ) = win0_1.index t₀ 1 * win0_1.size 1 + 1 * (y 1 : ℕ)
    rw [show win0_1.index t₀ 1 * win0_1.size 1 = 0 from by decide +kernel]; omega

/-- The result array ends at `outAt`. -/
theorem result_eq (c : Dev nD) : (dats m 0 c).arrAt 1 cfg0.N = outAt m c :=
  (dats m 0 c).arrAt_eq_of_cover 1 (outAt m c) (fun t _ => flushed_eq m c t) fun i => ⟨t₀, flush0_1 _, mem_block i⟩

def Post (r : PUnit × MemSt nD τ sig (Elt F)) : Prop :=
  (∀ c : Dev nD, r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2))
  ∧ r.2.sem = fun _ => 0

set_option maxRecDepth 8000 in
/-- On the mesh of four devices, for any float values, from any memory with zero counters: every weakly fair execution
    terminates, and at the end each device's result holds `outAt`, its arguments are unchanged and every counter reads zero. -/
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := phi0_intro m) (hout := phi1_exit m)
    (QY := Kept m)
    (hY := rest_read m)
    (hQ := fun s h hs => ⟨fun c => ⟨((h c).1 1).trans (result_eq m c), (h c).2.2.1.1, (h c).2.2.1.2, ((h c).1 0).trans ((dats m 0 c).arrAt_in 0 rfl _)⟩,
      sem_eq_zero hs fun c => (h c).2.2.2⟩)

end Cert.Proof.Run
-- ==== Proof.Frames.lean ====
/-
  All three programs run, keep their arguments and leave every counter at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof.Run

open Idealize.ShloMosaic Idealize.SL.Sem

/-- The idealization: the run at exact values. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- The reference declares no semaphore; its run keeps its arguments. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

section Printed

attribute [local instance] Cert.Kernel.Gen.facts Cert.KernelIdeal.Gen.facts

set_option maxRecDepth 65536 in
/-- The idealization rewrote nothing: the kernel as printed has the same region, -/
theorem regions_eq : Cert.Kernel.defs₀ (F := Bits) = Cert.KernelIdeal.defs₀ (F := Bits) := by
  unfold Cert.Kernel.defs₀ Cert.KernelIdeal.defs₀
  refine congrArg Defs.onTc ?_
  funext l a
  match l with
  | ⟨0, _⟩ => rfl

set_option maxRecDepth 65536 in
/-- and so the same procedures. -/
theorem defs_eq : Cert.Kernel.defs (F := Bits) = Cert.KernelIdeal.defs (F := Bits) := by
  unfold Cert.Kernel.defs Cert.KernelIdeal.defs
  rw [regions_eq]; rfl

end Printed

set_option maxRecDepth 65536 in
/-- The kernel as printed: its text is the idealization's, run at bit patterns. -/
theorem frame_kernel : Cert.quiescent_Kernel (hKernel := Cert.Kernel.Gen.facts) := by
  intro m ρ _
  rw [defs_eq]
  exact (θ_run Cert.KernelIdeal.defs _ _).mono (fun _ h => ⟨fun c => (h.1 c).2, h.2⟩) (run_main (F := Bits) m ρ)

end Cert.Proof.Run
-- ==== Proof.Equation.lean ====
/-
  The result is the reference's value: both read, at a row and a column, one function of the row they normalise.
-/
module

public import proofs.«01_k».proof.Proof.Launch
public import proofs.«01_k».proof.Proof.Gen.ReferenceIdeal.Run
public import Idealize.ShloMosaic.Lib.Pointwise

@[expose] public section

noncomputable section

namespace Cert.Proof.Run

open Idealize.ShloMosaic

/-- A row `y` scaled to root mean square one, then by `g`, at column `l`. -/
def rowNorm (y : Fin 1024 → EReal) (g : EReal) (l : Fin 1024) : EReal :=
  Ideal.div (y l) (Ideal.sqrt (Ideal.div (∑ k : Fin 1024, y k * y k) (Ideal.ofBits .f32 0x44800000#32) + Ideal.ofBits .f32 0x358637BD#32)) * g

section Kernel
open Cert.KernelIdeal Cert.KernelIdeal.Gen

/-- A chunk's rows, read at row `a` and column `b`. -/
theorem pay_apply (p x r : FVec Ideal S64x1024 .f32) (g : FVec Ideal S1024 .f32) (a : Fin 64) (b : Fin 1024) :
    k0_pay1 (F := Ideal) p x r g (ix2 a b) = rowNorm (fun k => p (ix2 a k) + x (ix2 a k) + r (ix2 a k)) (g (ix1 b)) b := by
  unfold rowNorm
  pointwise [k0_pay1]

variable (m : (ℓ : Loc nD τ sig) → Buf (Elt Ideal) ℓ)

/-- Device `c`'s arguments. -/
abbrev arg0At (c : Dev nD) : FVec Ideal S1x1024x1024 .f32 := m ((c.tc : Thread nD τ).loc main_arg0)
abbrev arg1At (c : Dev nD) : FVec Ideal S1024x1024 .f32 := m ((c.tc : Thread nD τ).loc main_arg1)
abbrev arg2At (c : Dev nD) : FVec Ideal S1024 .f32 := m ((c.tc : Thread nD τ).loc main_arg2)

/-- Row `a` of chunk `k` is row `64 k + a` of the half. -/
abbrev rowOf (k : Fin 8) (a : Fin 64) : Fin 512 := ⟨64 * k.val + a.val, by omega⟩
/-- Row `n` of device `c`'s half is row `512 (c mod 2) + n` of the whole. -/
abbrev rowAt (c : Dev nD) (n : Fin 512) : Fin 1024 := ⟨512 * (c.val % 2) + n.val, by omega⟩

/-- Loads of chunk `k` of the three scratch buffers, and of the scale, at an index. -/
theorem read_p (p : Half Ideal) (k : Fin 8) (a : Fin 64) (b : Fin 1024) :
    (pM).view.readAt (Elt Ideal) (rk k).toLoadRect p (ix2 a b) = p (ix2 (rowOf k a) b) := by
  refine congrArg p (funext fun i => ?_)
  match i with
  | ⟨0, _⟩ => exact Fin.ext (show 64 * k.val + 1 * a.val = 64 * k.val + a.val by omega)
  | ⟨1, _⟩ => exact Fin.ext (show 0 + 1 * b.val = b.val by omega)
theorem read_x (p : Half Ideal) (k : Fin 8) (a : Fin 64) (b : Fin 1024) :
    (xM).view.readAt (Elt Ideal) (rk k).toLoadRect p (ix2 a b) = p (ix2 (rowOf k a) b) := read_p p k a b
theorem read_r (p : Half Ideal) (k : Fin 8) (a : Fin 64) (b : Fin 1024) :
    (rM).view.readAt (Elt Ideal) (rk k).toLoadRect p (ix2 a b) = p (ix2 (rowOf k a) b) := read_p p k a b
theorem read_g (g : Vec Ideal) (b : Fin 1024) :
    (gM).view.readAt (Elt Ideal) (Rect.unit (s := S1024) ![0] S1024.size inb_S1024_S1024_0).toLoadRect g (ix1 b) = g (ix1 b) := by
  refine congrArg g (funext fun i => ?_)
  match i with
  | ⟨0, _⟩ => exact Fin.ext (show 0 + 1 * b.val = b.val by omega)

/-- Device `c`'s half of its partial sum, of the residual, and the scale, at an index. -/
theorem pAt_apply (c : Dev nD) (n : Fin 512) (b : Fin 1024) :
    pAt m c (ix2 n b) = arg0At m c (ix3 (0 : Fin 1) (rowAt c n) b) := by
  show arg0At m c ((Rect.unit (s := S1x1024x1024) (k0_off1 c) S1x512x1024.size (k0_off1_inb c)).emb (Shape.reshapeEquiv (squeezes_S1x512x1024_S512x1024).numel_eq (ix2 n b))) = _
  rw [Shape.reshapeEquiv_eq_of_rowMajor (y := ix3 (0 : Fin 1) n b) _ (by rw [rowMajor_val2 _ 1024 rfl, rowMajor_val3 _ (512 * 1024) 1024 rfl rfl]; simp)]
  refine congrArg (arg0At m c) (funext fun i => ?_)
  match i with
  | ⟨0, _⟩ => exact Subsingleton.elim (α := Fin 1) _ _
  | ⟨1, _⟩ => exact Fin.ext (show (k0_off1 c) 1 + 1 * n.val = 512 * (c.val % 2) + n.val by rw [k0_off1_eq, Nat.one_mul]; rfl)
  | ⟨2, _⟩ => exact Fin.ext (show (k0_off1 c) 2 + 1 * b.val = b.val by rw [k0_off1_eq, Nat.one_mul]; exact Nat.zero_add _)
theorem rAt_apply (c : Dev nD) (n : Fin 512) (b : Fin 1024) :
    rAt m c (ix2 n b) = arg1At m c (ix2 (rowAt c n) b) := by
  refine congrArg (m ((c.tc : Thread nD τ).loc main_arg1)) (funext fun i => ?_)
  match i with
  | ⟨0, _⟩ => exact Fin.ext (show (k0_off2 c) 0 + 1 * n.val = 512 * (c.val % 2) + n.val by rw [k0_off2_eq, Nat.one_mul]; rfl)
  | ⟨1, _⟩ => exact Fin.ext (show (k0_off2 c) 1 + 1 * b.val = b.val by rw [k0_off2_eq, Nat.one_mul]; exact Nat.zero_add _)
theorem gAt_apply (c : Dev nD) (b : Fin 1024) :
    gAt m c (ix1 b) = arg2At m c (ix1 b) := by
  refine congrArg (m ((c.tc : Thread nD τ).loc main_arg2)) (funext fun i => ?_)
  match i with
  | ⟨0, _⟩ => exact Fin.ext (show 0 * 1024 + 1 * b.val = b.val by omega)

/-- What device `d` computes for chunk `k`, read at row `a` and column `b`. -/
theorem outChunk_apply (d : Dev nD) (k : Fin 8) (a : Fin 64) (b : Fin 1024) :
    outChunk m d k (ix2 a b) = rowNorm (fun l => arg0At m d (ix3 (0 : Fin 1) (rowAt d (rowOf k a)) l)
        + arg0At m (xp d) (ix3 (0 : Fin 1) (rowAt d (rowOf k a)) l) + arg1At m d (ix2 (rowAt d (rowOf k a)) l)) (arg2At m d (ix1 b)) b := by
  have hx : rowAt (xp d) (rowOf k a) = rowAt d (rowOf k a) := Fin.ext (by simp only [xp_col])
  unfold outChunk chunkOf
  rw [pay_apply]
  refine congrArg₂ (fun y g => rowNorm y g b) (funext fun l => ?_) ((read_g _ b).trans (gAt_apply m d b))
  refine congrArg₂ (· + ·) (congrArg₂ (· + ·) ((read_p _ k a l).trans (pAt_apply m d _ l)) ?_) ((read_r _ k a l).trans (rAt_apply m d _ l))
  refine (read_x _ k a l).trans ((pAt_apply m (xp d) _ l).trans ?_)
  rw [hx]

end Kernel

section Reference
open Cert.ReferenceIdeal Cert.ReferenceIdeal.Gen

/-- The sum of both devices' partial sums and the residual, as the reference writes it, -/
def refSum (A : FVec Ideal S2x1024x1024 .f32) (R : FVec Ideal S1024x1024 .f32) : FVec Ideal S1024x1024 .f32 :=
  addf (Host.reduceAdd A (constant S_ .f32 0x00000000#32) reducesTo_S2x1024x1024_S1024x1024_d0 h_S_) R

/-- and its result. -/
def refOut (A : FVec Ideal S2x1024x1024 .f32) (R : FVec Ideal S1024x1024 .f32) (g : FVec Ideal S1024 .f32) : FVec Ideal S1024x1024 .f32 :=
  mulf (Host.divf (refSum A R) (broadcastInDim S1024x1024 ![0, 1] bcast_S1024x1_S1024x1024_0_1 (Host.sqrt (addf (Host.divf (broadcastInDim S1024x1 ![0] bcast_S1024_S1024x1_0 (Host.reduceAdd (mulf (refSum A R) (refSum A R)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 g))

/-- The reference's sum, read at row `n` and column `l`. -/
theorem refSum_apply (A : FVec Ideal S2x1024x1024 .f32) (R : FVec Ideal S1024x1024 .f32) (n l : Fin 1024) :
    refSum A R (ix2 n l) = A (ix3 0 n l) + A (ix3 1 n l) + R (ix2 n l) := by
  pointwise [refSum]
  rw [Fin.sum_univ_two]

/-- The reference's result, read at row `n` and column `l`. -/
theorem refOut_apply (A : FVec Ideal S2x1024x1024 .f32) (R : FVec Ideal S1024x1024 .f32) (g : FVec Ideal S1024 .f32) (n l : Fin 1024) :
    refOut A R g (ix2 n l) = rowNorm (fun k => A (ix3 0 n k) + A (ix3 1 n k) + R (ix2 n k)) (g (ix1 l)) l := by
  unfold rowNorm
  simp only [← refSum_apply]
  generalize hY : refSum A R = Y
  unfold refOut
  rw [hY]
  pointwise

end Reference

section Both
open Cert.KernelIdeal Cert.KernelIdeal.Gen

variable (m : (ℓ : Loc nD τ sig) → Buf (Elt Ideal) ℓ)

/-- Device `c`'s part of the partial sums is slab `c / 2`, its row of the mesh. -/
theorem slab_apply (c : Dev nD) (A : FVec Ideal ⟨3, ![2, 1024, 1024]⟩ .f32) (n l : Fin 1024) :
    (Layout.blockN ⟨3, ![1, 1024, 1024]⟩ ⟨3, ![2, 1024, 1024]⟩ (Layout.meshBlock [2, 2] ![[0], [], []] c) A : FVec Ideal S1x1024x1024 .f32) (ix3 (0 : Fin 1) n l)
      = A (ix3 (⟨c.val / 2, by have := c.isLt; revert this; generalize c.val = v; decide +revert⟩ : Fin 2) n l) := by
  rw [Layout.blockN_apply]
  refine congrArg A (funext fun b => Fin.ext ?_)
  rw [Layout.TilesN.idx_val]
  match b with
  | ⟨0, _⟩ =>
    have e : (Layout.meshBlock [2, 2] ![[0], [], []] c (by decide) (0 : Fin 3)).val = c.val / 2 := by
      rw [Layout.meshBlock_val]; revert c; decide
    exact (congrArg (fun x => x * 1 + 0) e).trans (Nat.mul_one _)
  | ⟨1, _⟩ => exact (congrArg (· + n.val) (Nat.zero_mul 1024)).trans (Nat.zero_add _)
  | ⟨2, _⟩ => exact (congrArg (· + l.val) (Nat.zero_mul 1024)).trans (Nat.zero_add _)

/-- The owner of row `n`'s half is in column `n / 512` of the mesh. -/
theorem owner_col (c : Dev nD) (n : Fin 1024) : (owner c n.val).val % 2 = n.val / 512 := by
  have hn : n.val / 512 < 2 := by omega
  unfold owner
  by_cases h : n.val / 512 = c.val % 2
  · rw [if_pos h, h]
  · rw [if_neg h, yp_col]; omega

/-- Both slabs, whichever device of a pair along x reads first. -/
theorem pair_sum (d : Dev nD) (f : Fin 2 → EReal) (h : (d.val / 2 < 2)) (h' : (xp d).val / 2 < 2) :
    f ⟨d.val / 2, h⟩ + f ⟨(xp d).val / 2, h'⟩ = f 0 + f 1 := by
  revert h h'
  match d with
  | 0 => intro _ _; rfl
  | 1 => intro _ _; rfl
  | 2 => intro _ _; exact add_comm (f 1) (f 0)
  | 3 => intro _ _; exact add_comm (f 1) (f 0)

/-- From arguments that are the reference's, cut over the mesh, every device's result is the reference's. -/
theorem outAt_eq (A : FVec Ideal ⟨3, ![2, 1024, 1024]⟩ .f32) (R : FVec Ideal S1024x1024 .f32) (g : FVec Ideal S1024 .f32)
    (h0 : ∀ c, arg0At m c = Layout.blockN ⟨3, ![1, 1024, 1024]⟩ ⟨3, ![2, 1024, 1024]⟩ (Layout.meshBlock [2, 2] ![[0], [], []] c) A)
    (h1 : ∀ c, arg1At m c = R) (h2 : ∀ c, arg2At m c = g) (c : Dev nD) : outAt m c = refOut A R g := by
  funext i
  obtain ⟨n, l, rfl⟩ : ∃ (n l : Fin 1024), i = ix2 n l := ⟨i 0, i 1, funext fun a => by match a with | ⟨0, _⟩ => rfl | ⟨1, _⟩ => rfl⟩
  rw [refOut_apply]
  have hn := n.isLt
  have hrc : rowCol ⟨n.val % 64, Nat.mod_lt _ (by decide)⟩ l = ix2 (⟨n.val % 64, Nat.mod_lt _ (by decide)⟩ : Fin 64) l :=
    funext fun a => by match a with | ⟨0, _⟩ => rfl | ⟨1, _⟩ => rfl
  show outChunk m (owner c n.val) ⟨n.val % 512 / 64, by omega⟩ (rowCol ⟨n.val % 64, Nat.mod_lt _ (by decide)⟩ l) = _
  rw [hrc, outChunk_apply]
  have hrow : rowAt (owner c n.val) (rowOf ⟨n.val % 512 / 64, by omega⟩ ⟨n.val % 64, Nat.mod_lt _ (by decide)⟩) = n :=
    Fin.ext (by have := owner_col c n; simp only; omega)
  rw [hrow, h2]
  refine congrArg (fun y => rowNorm y (g (ix1 l)) l) (funext fun k => ?_)
  rw [h0, h0, h1, slab_apply, slab_apply]
  exact congrArg (· + R (ix2 n k)) (pair_sum (owner c n.val) (fun x => A (ix3 x n k)) _ _)

end Both

end Cert.Proof.Run
-- ==== Proof.lean ====
/-
  The certificate: the kernel as printed and its idealization run, keep their arguments and end with every counter at zero,
  and every device's result is the reference's whole result, over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From the reference's arguments cut over the mesh, every device ends with the reference's whole result. -/
theorem algebraic : Cert.algebraic_KernelIdeal_ReferenceIdeal (hKernelIdeal := Cert.KernelIdeal.Gen.facts)
    (hReferenceIdeal := Cert.ReferenceIdeal.Gen.facts) := by
  intro m g m' g' _ h
  refine ⟨Run.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · exact (θ_run Cert.KernelIdeal.defs _ _).mono (fun _ hr c => ⟨(hr.1 c).1.trans (Run.outAt_eq m _ _ _ (fun d => (h d).1) (fun d => (h d).2.1) (fun d => (h d).2.2) c), (hr.1 c).2⟩)
      (Run.run_main (F := Ideal) m g)
  · exact (θ_run Cert.ReferenceIdeal.defs _ _).mono (fun _ hr => hr 0) (Cert.ReferenceIdeal.Value.run (F := Ideal) m' g')

/-- All five claims. -/
theorem claim : Cert.Claim := ⟨Cert.Kernel.Gen.facts, Cert.KernelIdeal.Gen.facts, Cert.ReferenceIdeal.Gen.facts,
  Run.frame_kernel, Run.frame_ideal, Run.frame_reference, trivial, algebraic⟩

end Cert.Proof

end
